-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S1x8x2048x256 : Shape := ⟨4, ![1, 8, 2048, 256]⟩
abbrev S1x1024x4096 : Shape := ⟨3, ![1, 1024, 4096]⟩
abbrev S1x4096x1024 : Shape := ⟨3, ![1, 4096, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S16384x1024 : Shape := ⟨2, ![16384, 1024]⟩
abbrev S1x16384x256 : Shape := ⟨3, ![1, 16384, 256]⟩
abbrev S1024 : Shape := ⟨1, ![1024]⟩
abbrev S1024x1024 : Shape := ⟨2, ![1024, 1024]⟩
abbrev S1x1024x256 : Shape := ⟨3, ![1, 1024, 256]⟩
abbrev S1024x4096 : Shape := ⟨2, ![1024, 4096]⟩
abbrev S4096x1024 : Shape := ⟨2, ![4096, 1024]⟩
abbrev S256x1024 : Shape := ⟨2, ![256, 1024]⟩
abbrev S6x64x4096 : Shape := ⟨3, ![6, 64, 4096]⟩
abbrev S6 : Shape := ⟨1, ![6]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S6x256x1024 : Shape := ⟨3, ![6, 256, 1024]⟩
abbrev S6x128x1024 : Shape := ⟨3, ![6, 128, 1024]⟩
abbrev S1x128x1024 : Shape := ⟨3, ![1, 128, 1024]⟩
abbrev S128x1024 : Shape := ⟨2, ![128, 1024]⟩
abbrev S1024x1 : Shape := ⟨2, ![1024, 1]⟩
abbrev S1024x256 : Shape := ⟨2, ![1024, 256]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x256x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S1x16384x256, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x4096, .bf16⟩
  | .local _ .vmem, ⟨11, _⟩ => ⟨S4096x1024, .bf16⟩
  | .local _ .vmem, ⟨12, _⟩ => ⟨S1024x1024, .bf16⟩
  | .local _ .vmem, ⟨13, _⟩ => ⟨S256x1024, .bf16⟩
  | .local _ .vmem, ⟨14, _⟩ => ⟨S6x64x4096, .f32⟩
  | .local _ .vmem, ⟨15, _⟩ => ⟨S6x256x1024, .f32⟩
  | .local _ .vmem, ⟨16, _⟩ => ⟨S6x256x1024, .f32⟩
  | .local _ .vmem, ⟨17, _⟩ => ⟨S6x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scoped0 : Ref sig .tc := ⟨.vmem, 14, rfl⟩
abbrev cc0_scoped2 : Ref sig .tc := ⟨.vmem, 15, rfl⟩
abbrev cc0_scoped4 : Ref sig .tc := ⟨.vmem, 16, rfl⟩
abbrev cc0_scoped6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x1024 : Shape := ⟨3, ![8, 2048, 1024]⟩
abbrev S1x8x2048x256 : Shape := ⟨4, ![1, 8, 2048, 256]⟩
abbrev S1x1024x4096 : Shape := ⟨3, ![1, 1024, 4096]⟩
abbrev S1x4096x1024 : Shape := ⟨3, ![1, 4096, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x4096 : Shape := ⟨2, ![1024, 4096]⟩
abbrev S8x2048x4096 : Shape := ⟨3, ![8, 2048, 4096]⟩
abbrev S_ : Shape := ⟨0, ![]⟩
abbrev S4096x1024 : Shape := ⟨2, ![4096, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x1024 : Shape := ⟨2, ![1024, 1024]⟩
abbrev S8x2048x256 : Shape := ⟨3, ![8, 2048, 256]⟩
abbrev S256x1024 : Shape := ⟨2, ![256, 1024]⟩
abbrev S16384x1024 : Shape := ⟨2, ![16384, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x256x1024, .f32⟩
  | .hbm, ⟨8, _⟩ => ⟨S1x1024, .f32⟩
  | .hbm, ⟨9, _⟩ => ⟨S1x1024, .f32⟩
  | .hbm, ⟨10, _⟩ => ⟨S1024x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S4096x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1024x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S8x2048x256, .f32⟩
  | .hbm, ⟨62, _⟩ => ⟨S256x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | .hbm, ⟨98, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Proof.Slots.lean ====
module

public import Idealize.ShloMosaic.Lib.Pipeline.FrameBody
public import Idealize.ShloMosaic.Lib.Pipeline.Value
public import Idealize.ShloMosaic.Lib.Writes

/-! What a row of a staging ring reads after transfers into its rows, and what a buffer reads after it was stored in
    row chunks that together cover it. Both for any values. -/

@[expose] public section

namespace Cert.Slots

open Idealize.ShloMosaic

variable {sig : RefSig} {κ : Kind} {sp : Space} {s s' : Shape} {e : EltTy} {Val : EltTy → Type}

/-- A transfer into one row of a ring, rows running along the first axis, is not seen by a load of another row. -/
theorem ld_skip {n b d : ℕ} (v : View sig κ sp ⟨3, ![n, b, d]⟩ e) {off off' size size' : Fin 3 → ℕ}
    (inb : ∀ a, off a + size a ≤ (![n, b, d] : Fin 3 → ℕ) a) (inb' : ∀ a, off' a + size' a ≤ (![n, b, d] : Fin 3 → ℕ) a)
    (hq' : s'.numel = (Rect.unit (s := ⟨3, ![n, b, d]⟩) off' size' inb').shape.numel)
    (f : v.ty.Contents Val) (w : s'.Idx → Val e) (h : off 0 + size 0 ≤ off' 0 ∨ off' 0 + size' 0 ≤ off 0) :
    v.readAt Val (Rect.unit (s := ⟨3, ![n, b, d]⟩) off size inb).toLoadRect
        (((v.slice (Rect.unit (s := ⟨3, ![n, b, d]⟩) off' size' inb')).reshape s' hq').write Val f w Finset.univ)
      = v.readAt Val (Rect.unit (s := ⟨3, ![n, b, d]⟩) off size inb).toLoadRect f := by
  show (v.slice (Rect.unit (s := ⟨3, ![n, b, d]⟩) off size inb)).read Val _ = (v.slice (Rect.unit (s := ⟨3, ![n, b, d]⟩) off size inb)).read Val f
  refine View.read_congr fun i hi => View.write_of_not_mem _ _ _ fun hi' => ?_
  have h1 : i ∈ (v.slice (Rect.unit (s := ⟨3, ![n, b, d]⟩) off size inb)).set := hi
  have h2 : i ∈ (v.slice (Rect.unit (s := ⟨3, ![n, b, d]⟩) off' size' inb')).set := by
    have := hi'; rwa [View.setOn_univ, View.set_reshape] at this
  rw [View.set_slice, Finset.mem_map] at h1 h2
  obtain ⟨x, hx, rfl⟩ := h1
  obtain ⟨y, hy, hyx⟩ := h2
  obtain rfl := v.emb.injective hyx
  obtain ⟨j, hj, e₁⟩ := (Rect.unit (s := ⟨3, ![n, b, d]⟩) off size inb).mem_set.mp hx (0 : Fin 3)
  obtain ⟨j', hj', e₂⟩ := (Rect.unit (s := ⟨3, ![n, b, d]⟩) off' size' inb').mem_set.mp hy (0 : Fin 3)
  simp only [Rect.unit] at hj hj' e₁ e₂
  omega

/-- A load of a row after a transfer into it, read in the transfer's shape, is what was transferred. -/
theorem ld_hit {n b d : ℕ} (v : View sig κ sp ⟨3, ![n, b, d]⟩ e) {off size : Fin 3 → ℕ}
    (inb : ∀ a, off a + size a ≤ (![n, b, d] : Fin 3 → ℕ) a)
    (hq : s'.numel = (Rect.unit (s := ⟨3, ![n, b, d]⟩) off size inb).shape.numel)
    (hc : (Rect.unit (s := ⟨3, ![n, b, d]⟩) off size inb).shape.ShapeCasts s') (f : v.ty.Contents Val) (w : s'.Idx → Val e) :
    shapeCast s' (v.readAt Val (Rect.unit (s := ⟨3, ![n, b, d]⟩) off size inb).toLoadRect
        (((v.slice (Rect.unit (s := ⟨3, ![n, b, d]⟩) off size inb)).reshape s' hq).write Val f w Finset.univ)) hc = w :=
  View.read_write_univ (v := (v.slice (Rect.unit (s := ⟨3, ![n, b, d]⟩) off size inb)).reshape s' hq) f w

/-- Stored in pieces that cover it and each carry the values `G` has there, a buffer reads `G`. -/
theorem read_pieces (v : View sig κ sp s e) (f : v.ty.Contents Val) (G : s.Idx → Val e) :
    ∀ L : List (View.Piece Val s e), (∀ p ∈ L, ∀ x, p.2 x = G (p.1.emb x)) → ∀ y, (∃ p ∈ L, y ∈ p.1.set) →
      v.read Val (v.writes Val f L) y = G y
  | [], _, y, h => by obtain ⟨p, hp, _⟩ := h; exact absurd hp List.not_mem_nil
  | q :: L, hG, y, h => by
    by_cases hy : y ∈ q.1.set
    · obtain ⟨x, rfl⟩ : ∃ x, q.1.emb x = y := q.1.exists_idx_of_mem hy
      rw [View.read_writes_cons_emb v f q.1 q.2 L x]
      exact hG q List.mem_cons_self x
    · obtain ⟨p, hp, hyp⟩ := h
      have hp' : p ∈ L := by
        rcases List.mem_cons.mp hp with rfl | hp
        · exact absurd hyp hy
        · exact hp
      have := read_pieces v f G L (fun p hp => hG p (List.mem_cons_of_mem _ hp)) y ⟨p, hp', hyp⟩
      rw [← this]
      exact View.read_writes_cons_miss v f q L y hy

end Cert.Slots
end
-- ==== Proof.Fill.lean ====
module

public import proofs.«01_k».proof.Proof.Gen.KernelIdeal.Skeleton
public import proofs.«01_k».proof.Proof.Gen.KernelIdeal.Frame
public import proofs.«01_k».proof.Proof.Slots

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The weights, left in HBM by the pipeline and copied by the kernel itself. -/
abbrev hbM0 : Memref sig .tc .hbm S1x1024x4096 .f32 := Memref.whole main_arg2
abbrev hbM1 : Memref sig .tc .hbm S1x4096x1024 .f32 := Memref.whole main_arg3
abbrev hbM2 : Memref sig .tc .hbm S1x1024x1024 .f32 := Memref.whole main_arg6
abbrev hbM3 : Memref sig .tc .hbm S1x256x1024 .f32 := Memref.whole main_arg7
/-- A buffer's contents type, and the buffer held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The weights as they lie in HBM, seen as matrices. -/
def hb1 (c : Dev nD) (f : HbBuf (F := F) c hbM0) : S1024x4096.Idx → F .f32 :=
  View.read (Elt F) ((hbM0.slice (Rect.unit (s := S1x1024x4096) ![0, 0, 0] S1x1024x4096.size inb_S1x1024x4096_S1x1024x4096_0_0_0) (fun _ => rfl)).squeeze S1024x4096 squeezes_S1x1024x4096_S1024x4096).view f
def hb2 (c : Dev nD) (f : HbBuf (F := F) c hbM1) : S4096x1024.Idx → F .f32 :=
  View.read (Elt F) ((hbM1.slice (Rect.unit (s := S1x4096x1024) ![0, 0, 0] S1x4096x1024.size inb_S1x4096x1024_S1x4096x1024_0_0_0) (fun _ => rfl)).squeeze S4096x1024 squeezes_S1x4096x1024_S4096x1024).view f
def hb3 (c : Dev nD) (f : HbBuf (F := F) c hbM2) : S1024x1024.Idx → F .f32 :=
  View.read (Elt F) ((hbM2.slice (Rect.unit (s := S1x1024x1024) ![0, 0, 0] S1x1024x1024.size inb_S1x1024x1024_S1x1024x1024_0_0_0) (fun _ => rfl)).squeeze S1024x1024 squeezes_S1x1024x1024_S1024x1024).view f
def hb4 (c : Dev nD) (f : HbBuf (F := F) c hbM3) : S256x1024.Idx → F .f32 :=
  View.read (Elt F) ((hbM3.slice (Rect.unit (s := S1x256x1024) ![0, 0, 0] S1x256x1024.size inb_S1x256x1024_S1x256x1024_0_0_0) (fun _ => rfl)).squeeze S256x1024 squeezes_S1x256x1024_S256x1024).view f

/-- What the scratch holds of each weight once loaded: the weight cast to bf16, the gate's halved first. -/
def W1 (c : Dev nD) (f : HbBuf (F := F) c hbM0) : FVec F S1024x4096 .bf16 := truncf .bf16 (hb1 c f) bitsLt_bf16_f32
def W2 (c : Dev nD) (f : HbBuf (F := F) c hbM1) : FVec F S4096x1024 .bf16 := truncf .bf16 (hb2 c f) bitsLt_bf16_f32
def W3 (c : Dev nD) (f : HbBuf (F := F) c hbM2) : FVec F S1024x1024 .bf16 :=
  truncf .bf16 (mulf (broadcast S1024x1024 (Scalar.ofBits .f32 0x3F000000#32)) (hb3 c f)) bitsLt_bf16_f32
def W4 (c : Dev nD) (f : HbBuf (F := F) c hbM3) : FVec F S256x1024 .bf16 := truncf .bf16 (hb4 c f) bitsLt_bf16_f32

/-- The loading of the four weights, as the kernel does it at its first grid point: each weight comes through its
    staging ring in row chunks, is cast to bf16 (the gate's weight halved first) and stored in its scratch. -/
def fill (i : grid0.Coords) (arg1 : Memref sig .tc .vmem S1024x1024 .f32) (harg1 : arg1.IsWhole) (arg2 : Memref sig .tc .vmem S1x1024x256 .f32) (harg2 : arg2.IsWhole) (arg3 : Memref sig .tc .hbm S1x1024x4096 .f32) (harg3 : arg3.IsWhole) (arg4 : Memref sig .tc .hbm S1x4096x1024 .f32) (harg4 : arg4.IsWhole) (arg5 : Memref sig .tc .hbm S1x1024x1024 .f32) (harg5 : arg5.IsWhole) (arg6 : Memref sig .tc .hbm S1x256x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (v83_r0 : DmaSems sig S6) (alloca_r1 : Memref sig .tc .vmem S6x256x1024 .f32) (halloca_r1 : alloca_r1.IsWhole) (v83_r1 : DmaSems sig S6) (alloca_r2 : Memref sig .tc .vmem S6x256x1024 .f32) (halloca_r2 : alloca_r2.IsWhole) (v83_r2 : DmaSems sig S6) (alloca_r3 : Memref sig .tc .vmem S6x128x1024 .f32) (halloca_r3 : alloca_r3.IsWhole) (v83_r3 : DmaSems sig S6) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v135_r0 : FVec F S64x4096 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v135_r0
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v218_r0 : FVec F S64x4096 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v218_r0
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v195_r1 : FVec F S256x1024 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v195_r1
  k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v361_r1 : FVec F S256x1024 .bf16 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v387_r1 : FVec F S256x1024 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v361_r1
  k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v387_r1
  let v123_r2 : FVec F S256x1024 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let ⟨v150_r2, v151_r2⟩ : Σ' (v150_r2 : FVec F S256x1024 .f32), FVec F S256x1024 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v123_r2
  k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 v150_r2 v151_r2
  let v118_r3 : Vec F S1x128x1024 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3
  let v121_r3 : Vec F S128x1024 .bf16 ← Prog.lift (.load arg15 (Rect.unit (s := S256x1024) ![128, 0] S128x1024.size inb_S256x1024_S128x1024_128_0).toLoadRect (View.loadsAt_vmem h_S128x1024))
  Prog.lift (.store arg15 (Rect.unit (s := S256x1024) ![128, 0] S128x1024.size inb_S256x1024_S128x1024_128_0) (k0_pay46 v118_r3) Finset.univ (View.stores_vmem h_S128x1024 (harg15.storeExact_slice rfl _ packedbf16_S256x1024_S128x1024_128_0) (fun _ => rfl)) (.inl rfl))
  pure ⟨⟩
set_option maxHeartbeats 3744000 in set_option sl_exec.dmaWindow true in set_option sl_exec.dmaWindowSet true in
theorem fill_run (c : Dev nD) (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)
    (fh0 : HbBuf (F := F) c hbM0) (fh1 : HbBuf (F := F) c hbM1) (fh2 : HbBuf (F := F) c hbM2) (fh3 : HbBuf (F := F) c hbM3)
    (W : Waits sig Unit) (K : PUnit → sProp 𝕄) :
    iprop((∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt c hbM0 fh0 ∗ hbPt c hbM1 fh1 ∗ hbPt c hbM2 fh2 ∗ hbPt c hbM3 fh3 ∗ owes (c : Thread nD τ) 0 W ∗ (iprop(owns (c : Thread nD τ) arg12 fullShare (W1 c fh0) ∗ owns (c : Thread nD τ) arg13 fullShare (W2 c fh1) ∗ owns (c : Thread nD τ) arg14 fullShare (W3 c fh2) ∗ owns (c : Thread nD τ) arg15 fullShare (W4 c fh3) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt c hbM0 fh0 ∗ hbPt c hbM1 fh1 ∗ hbPt c hbM2 fh2 ∗ hbPt c hbM3 fh3 ∗ ∃ W2, owes (c : Thread nD τ) 0 W2) -∗ K ⟨⟩))
      ⊢ wp frame (wpE (defs₀ (F := F)) Variants.none c none) Set.univ (fill i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7) K := by
  unfold fill
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, HW, Hk⟩
  sl_exec
  sl_step
  iapply Hk
  isplitl [HS0]
  · iexists _
    isplitr [HS0]; swap; · iexact HS0
    · ipureintro
      refine funext fun y => Cert.Slots.read_pieces (Val := Elt F) (e := .bf16) (s := S1024x4096) _ _ (W1 c fh0) _ ?_ y ?_
      swap
      · exact View.cover_of_tiledL (s := S1024x4096) _ S64x4096.size (by rfl) y
      intro p hp x
      simp only [List.mem_cons, List.not_mem_nil, or_false] at hp
      rcases hp with rfl | rfl | rfl | rfl | rfl | rfl | rfl | rfl | rfl | rfl | rfl | rfl | rfl | rfl | rfl | rfl
      all_goals
        try delta fill_run.sl.r
        try delta fill_run.sl.r_1
        try delta fill_run.sl.r_2
        try delta fill_run.sl.r_3
        try delta fill_run.sl.r_4
        try delta fill_run.sl.r_5
        try delta fill_run.sl.r_6
        try delta fill_run.sl.v153_r0
        try delta fill_run.sl.v173_r0
        try delta fill_run.sl.v193_r0
        try delta fill_run.sl.v233_r0
        try delta fill_run.sl.v253_r0
        try delta fill_run.sl.v273_r0
        try delta fill_run.sl.v293_r0
        try delta fill_run.sl.v313_r0
        try delta fill_run.sl.v333_r0
        try delta fill_run.sl.v346_r0
        try delta fill_run.sl.v359_r0
        try delta fill_run.sl.v372_r0
        try delta fill_run.sl.v385_r0
        try delta fill_run.sl.v398_r0
        try delta fill_run.sl.v133_r0
        try delta fill_run.sl.v213_r0
        simp only [k0_pay2, k0_pay3, k0_pay4, k0_pay5, k0_pay6, k0_pay7, k0_pay8, k0_pay9, k0_pay10, k0_pay11, k0_pay12, k0_pay13, k0_pay14, k0_pay15, k0_pay16, k0_pay17, k0_pay18]
        simp (disch := decide) only [Cert.Slots.ld_skip, Cert.Slots.ld_hit, shapeCast_self]
        rfl
  isplitl [HS1]
  · iexists _
    isplitr [HS1]; swap; · iexact HS1
    · ipureintro
      refine funext fun y => Cert.Slots.read_pieces (Val := Elt F) (e := .bf16) (s := S4096x1024) _ _ (W2 c fh1) _ ?_ y ?_
      swap
      · exact View.cover_of_tiledL (s := S4096x1024) _ S256x1024.size (by rfl) y
      intro p hp x
      simp only [List.mem_cons, List.not_mem_nil, or_false] at hp
      rcases hp with rfl | rfl | rfl | rfl | rfl | rfl | rfl | rfl | rfl | rfl | rfl | rfl | rfl | rfl | rfl | rfl
      all_goals
        try delta fill_run.sl.r
        try delta fill_run.sl.r_1
        try delta fill_run.sl.r_2
        try delta fill_run.sl.r_3
        try delta fill_run.sl.r_4
        try delta fill_run.sl.r_5
        try delta fill_run.sl.r_6
        try delta fill_run.sl.v133_r1
        try delta fill_run.sl.v153_r1
        try delta fill_run.sl.v173_r1
        try delta fill_run.sl.v213_r1
        try delta fill_run.sl.v233_r1
        try delta fill_run.sl.v253_r1
        try delta fill_run.sl.v273_r1
        try delta fill_run.sl.v293_r1
        try delta fill_run.sl.v313_r1
        try delta fill_run.sl.v333_r1
        try delta fill_run.sl.v346_r1
        try delta fill_run.sl.v372_r1
        try delta fill_run.sl.v398_r1
        try delta fill_run.sl.v193_r1
        try delta fill_run.sl.v359_r1
        try delta fill_run.sl.v385_r1
        simp only [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
        simp (disch := decide) only [Cert.Slots.ld_skip, Cert.Slots.ld_hit, shapeCast_self]
        rfl
  isplitl [HS2]
  · iexists _
    isplitr [HS2]; swap; · iexact HS2
    · ipureintro
      refine funext fun y => Cert.Slots.read_pieces (Val := Elt F) (e := .bf16) (s := S1024x1024) _ _ (W3 c fh2) _ ?_ y ?_
      swap
      · exact View.cover_of_tiledL (s := S1024x1024) _ S256x1024.size (by rfl) y
      intro p hp x
      simp only [List.mem_cons, List.not_mem_nil, or_false] at hp
      rcases hp with rfl | rfl | rfl | rfl
      all_goals
        try delta fill_run.sl.r
        try delta fill_run.sl.r_1
        try delta fill_run.sl.r_2
        try delta fill_run.sl.r_3
        try delta fill_run.sl.r_4
        try delta fill_run.sl.r_5
        try delta fill_run.sl.r_6
        try delta fill_run.sl.v134_r2
        try delta fill_run.sl.v164_r2
        try delta fill_run.sl.v119_r2
        try delta fill_run.sl.v149_r2
        simp only [k0_pay38, k0_pay39, k0_pay40, k0_pay41, k0_pay42, k0_pay43, k0_pay44]
        simp (disch := decide) only [Cert.Slots.ld_skip, Cert.Slots.ld_hit, shapeCast_self]
        rfl
  isplitl [HS3]
  · iexists _
    isplitr [HS3]; swap; · iexact HS3
    · ipureintro
      refine funext fun y => Cert.Slots.read_pieces (Val := Elt F) (e := .bf16) (s := S256x1024) _ _ (W4 c fh3) _ ?_ y ?_
      swap
      · exact View.cover_of_tiledL (s := S256x1024) _ S128x1024.size (by rfl) y
      intro p hp x
      simp only [List.mem_cons, List.not_mem_nil, or_false] at hp
      rcases hp with rfl | rfl
      all_goals
        try delta fill_run.sl.r
        try delta fill_run.sl.r_1
        try delta fill_run.sl.r_2
        try delta fill_run.sl.r_3
        try delta fill_run.sl.r_4
        try delta fill_run.sl.r_5
        try delta fill_run.sl.r_6
        try delta fill_run.sl.v105_r3
        try delta fill_run.sl.v
        simp only [k0_pay45, k0_pay46]
        simp (disch := decide) only [Cert.Slots.ld_skip, Cert.Slots.ld_hit, shapeCast_self]
        rfl
  isplitl [HS4]
  · iexists _; iexists _; isplitr [HS4]; swap; · iexact HS4
    ipureintro; rfl
  isplitl [HS5]
  · iexists _; iexists _; isplitr [HS5]; swap; · iexact HS5
    ipureintro; rfl
  isplitl [HS6]
  · iexists _; iexists _; isplitr [HS6]; swap; · iexact HS6
    ipureintro; rfl
  isplitl [HS7]
  · iexists _; iexists _; isplitr [HS7]; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [Hh3]; · iexact Hh3
  iexists _; iexact HW

end Cert.KernelIdeal.Hand
end
-- ==== Proof.Comp.lean ====
module

public import proofs.«01_k».proof.Proof.Gen.KernelIdeal.Skeleton
public import proofs.«01_k».proof.Proof.Gen.KernelIdeal.Frame
public import proofs.«01_k».proof.Proof.Fill
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What one block of the result holds, from the block of rows, its per-layer input, the two layer norms' scales and
    shifts, and the weights as the scratch holds them. -/
def block (x : Vec F S1024x1024 .f32) (p : Vec F S1x1024x256 .f32) (g2 b2 g3 b3 : Vec F S1x1024 .f32)
    (w1 : Vec F S1024x4096 .bf16) (w2 : Vec F S4096x1024 .bf16) (w3 : Vec F S1024x1024 .bf16) (w4 : Vec F S256x1024 .bf16) :
    Vec F S1024x1024 .f32 :=
  k0_pay1 (k0_pay50 g3) (k0_pay51 b3) (k0_pay52 (k0_pay47 g2) (k0_pay48 b2) (k0_pay49 x w1 w2) w3 p w4)
    (k0_pay53 (k0_pay47 g2) (k0_pay48 b2) (k0_pay49 x w1 w2) w3 p w4)

/-- The computation of one block, as the kernel does it at every grid point once the weights are loaded. -/
def comp (i : grid0.Coords) (arg1 : Memref sig .tc .vmem S1024x1024 .f32) (harg1 : arg1.IsWhole) (arg2 : Memref sig .tc .vmem S1x1024x256 .f32) (harg2 : arg2.IsWhole) (arg3 : Memref sig .tc .hbm S1x1024x4096 .f32) (harg3 : arg3.IsWhole) (arg4 : Memref sig .tc .hbm S1x4096x1024 .f32) (harg4 : arg4.IsWhole) (arg5 : Memref sig .tc .hbm S1x1024x1024 .f32) (harg5 : arg5.IsWhole) (arg6 : Memref sig .tc .hbm S1x256x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (v83_r0 : DmaSems sig S6) (alloca_r1 : Memref sig .tc .vmem S6x256x1024 .f32) (halloca_r1 : alloca_r1.IsWhole) (v83_r1 : DmaSems sig S6) (alloca_r2 : Memref sig .tc .vmem S6x256x1024 .f32) (halloca_r2 : alloca_r2.IsWhole) (v83_r2 : DmaSems sig S6) (alloca_r3 : Memref sig .tc .vmem S6x128x1024 .f32) (halloca_r3 : alloca_r3.IsWhole) (v83_r3 : DmaSems sig S6) :
    Prog (TpuEff nD τ sig (Elt F) Λ₀ .tc) PUnit := do
  let v3 : Vec F S1024x1024 .f32 ← Prog.lift (.load arg1 (Rect.unit (s := S1024x1024) ![0, 0] S1024x1024.size inb_S1024x1024_S1024x1024_0_0).toLoadRect (View.loadsAt_vmem h_S1024x1024))
  let v6 : Vec F S1024x4096 .bf16 ← Prog.lift (.load arg12 (Rect.unit (s := S1024x4096) ![0, 0] S1024x4096.size inb_S1024x4096_S1024x4096_0_0).toLoadRect (View.loadsAt_vmem h_S1024x4096))
  let v12 : Vec F S4096x1024 .bf16 ← Prog.lift (.load arg13 (Rect.unit (s := S4096x1024) ![0, 0] S4096x1024.size inb_S4096x1024_S4096x1024_0_0).toLoadRect (View.loadsAt_vmem h_S4096x1024))
  let v17 : Vec F S1x1024 .f32 ← Prog.lift (.load arg7 (Rect.unit (s := S1x1024) ![0, 0] S1x1024.size inb_S1x1024_S1x1024_0_0).toLoadRect (View.loadsAt_vmem h_S1x1024))
  let v19 : Vec F S1x1024 .f32 ← Prog.lift (.load arg8 (Rect.unit (s := S1x1024) ![0, 0] S1x1024.size inb_S1x1024_S1x1024_0_0).toLoadRect (View.loadsAt_vmem h_S1x1024))
  let ⟨v59, v61, v67, v75⟩ : Σ' (v59 : FVec F S1x1024 .f32) (v61 : FVec F S1x1024 .f32) (v67 : FVec F S1024x1024 .f32), FVec F S1024x1 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 alloca_r0 halloca_r0 v83_r0 alloca_r1 halloca_r1 v83_r1 alloca_r2 halloca_r2 v83_r2 alloca_r3 halloca_r3 v83_r3 (k0_pay47 v17) (k0_pay48 v19) (k0_pay49 v3 v6 v12)
  let v82 : Vec F S1024x1024 .f32 ← Prog.lift (.load arg11 (Rect.unit (s := S1024x1024) ![0, 0] S1024x1024.size inb_S1024x1024_S1024x1024_0_0).toLoadRect (View.loadsAt_vmem h_S1024x1024))
  Prog.lift (.store arg11 (Rect.unit (s := S1024x1024) ![0, 0] S1024x1024.size inb_S1024x1024_S1024x1024_0_0) (k0_pay1 v59 v61 v67 v75) Finset.univ (View.stores_vmem_bits_univ h_S1024x1024 rfl) (.inl rfl))
  pure ⟨⟩

set_option maxHeartbeats 1000000 in
/-- One block's computation leaves the block in the output's buffer and everything else as it was. -/
theorem comp_run (c : Dev nD) (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)
    (x0 : Vec F S1024x1024 .f32) (x1 : Vec F S1x1024x256 .f32) (x2 : Vec F S1x1024 .f32) (x3 : Vec F S1x1024 .f32) (x4 : Vec F S1x1024 .f32) (x5 : Vec F S1x1024 .f32)
    (w1 : Vec F S1024x4096 .bf16) (w2 : Vec F S4096x1024 .bf16) (w3 : Vec F S1024x1024 .bf16) (w4 : Vec F S256x1024 .bf16)
    (K : PUnit → sProp 𝕄) :
    iprop(iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg12 fullShare w1 ∗ owns (c : Thread nD τ) arg13 fullShare w2 ∗ owns (c : Thread nD τ) arg14 fullShare w3 ∗ owns (c : Thread nD τ) arg15 fullShare w4) ∗ (∃ d, owns (c : Thread nD τ) arg11 fullShare d) ∗ (iprop(iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg12 fullShare w1 ∗ owns (c : Thread nD τ) arg13 fullShare w2 ∗ owns (c : Thread nD τ) arg14 fullShare w3 ∗ owns (c : Thread nD τ) arg15 fullShare w4) ∗ owns (c : Thread nD τ) arg11 fullShare (block x0 x1 x2 x3 x4 x5 w1 w2 w3 w4)) -∗ K ⟨⟩))
      ⊢ wp frame (wpE (defs₀ (F := F)) Variants.none c none) Set.univ (comp i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7) K := by
  unfold comp
  simp only [k0_part30_eq_skeleton]
  unfold owns
  iintro ⟨⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fHS0, %hfHS0, HS0⟩, ⟨%fHS1, %hfHS1, HS1⟩, ⟨%fHS2, %hfHS2, HS2⟩, ⟨%fHS3, %hfHS3, HS3⟩⟩, ⟨%d6, %f6, -, H6⟩, Hk⟩
  obtain rfl := harg1.eq_unread hfH0; obtain rfl := harg2.eq_unread hfH1; obtain rfl := harg7.eq_unread hfH2; obtain rfl := harg8.eq_unread hfH3; obtain rfl := harg9.eq_unread hfH4; obtain rfl := harg10.eq_unread hfH5; obtain rfl := harg12.eq_unread hfHS0; obtain rfl := harg13.eq_unread hfHS1; obtain rfl := harg14.eq_unread hfHS2; obtain rfl := harg15.eq_unread hfHS3
  sl_exec
  sl_step
  iapply Hk
  isplitr [H6]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3
  · iexists _; isplitr; swap; · iexact H6
    ipureintro
    refine (View.read_writes_full arg11.view f6 inb_S1024x1024_S1024x1024_0_0 _ _).trans ?_
    have ex0 : arg1.view.readAt (Elt F) (Rect.unit (s := S1024x1024) ![0, 0] S1024x1024.size inb_S1024x1024_S1024x1024_0_0).toLoadRect (harg1.unread x0) = x0 :=
      (View.readAt_full _ _ _).trans (harg1.read_unread _)
    have ex1 : arg2.view.readAt (Elt F) (Rect.unit (s := S1x1024x256) ![0, 0, 0] S1x1024x256.size inb_S1x1024x256_S1x1024x256_0_0_0).toLoadRect (harg2.unread x1) = x1 :=
      (View.readAt_full _ _ _).trans (harg2.read_unread _)
    have ex2 : arg7.view.readAt (Elt F) (Rect.unit (s := S1x1024) ![0, 0] S1x1024.size inb_S1x1024_S1x1024_0_0).toLoadRect (harg7.unread x2) = x2 :=
      (View.readAt_full _ _ _).trans (harg7.read_unread _)
    have ex3 : arg8.view.readAt (Elt F) (Rect.unit (s := S1x1024) ![0, 0] S1x1024.size inb_S1x1024_S1x1024_0_0).toLoadRect (harg8.unread x3) = x3 :=
      (View.readAt_full _ _ _).trans (harg8.read_unread _)
    have ex4 : arg9.view.readAt (Elt F) (Rect.unit (s := S1x1024) ![0, 0] S1x1024.size inb_S1x1024_S1x1024_0_0).toLoadRect (harg9.unread x4) = x4 :=
      (View.readAt_full _ _ _).trans (harg9.read_unread _)
    have ex5 : arg10.view.readAt (Elt F) (Rect.unit (s := S1x1024) ![0, 0] S1x1024.size inb_S1x1024_S1x1024_0_0).toLoadRect (harg10.unread x5) = x5 :=
      (View.readAt_full _ _ _).trans (harg10.read_unread _)
    have ew1 : arg12.view.readAt (Elt F) (Rect.unit (s := S1024x4096) ![0, 0] S1024x4096.size inb_S1024x4096_S1024x4096_0_0).toLoadRect (harg12.unread w1) = w1 :=
      (View.readAt_full _ _ _).trans (harg12.read_unread _)
    have ew2 : arg13.view.readAt (Elt F) (Rect.unit (s := S4096x1024) ![0, 0] S4096x1024.size inb_S4096x1024_S4096x1024_0_0).toLoadRect (harg13.unread w2) = w2 :=
      (View.readAt_full _ _ _).trans (harg13.read_unread _)
    have ew3 : arg14.view.readAt (Elt F) (Rect.unit (s := S1024x1024) ![0, 0] S1024x1024.size inb_S1024x1024_S1024x1024_0_0).toLoadRect (harg14.unread w3) = w3 :=
      (View.readAt_full _ _ _).trans (harg14.read_unread _)
    have ew4 : arg15.view.readAt (Elt F) (Rect.unit (s := S256x1024) ![0, 0] S256x1024.size inb_S256x1024_S256x1024_0_0).toLoadRect (harg15.unread w4) = w4 :=
      (View.readAt_full _ _ _).trans (harg15.read_unread _)
    conv_rhs => rw [← ex0, ← ex1, ← ex2, ← ex3, ← ex4, ← ex5, ← ew1, ← ew2, ← ew3, ← ew4]
    rfl

/-- At the first grid point the kernel loads the weights, then computes its block; -/
theorem chan_first (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)  (hc : Scalar.cmpi .ne (Scalar.extui (Scalar.cmpi .eq (BitVec.ofNat 32 (i 0).val) 0#32)) 0#32 = 1#1) :
    cc0_channel (F := F) i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7 = fill i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7 >>= fun _ => comp i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7 := by
  simp only [cc0_channel_eq_skeleton]; unfold cc0_channel_skel
  simp only [k0_part29_eq_skeleton]; unfold k0_part29_skel fill comp
  rw [dif_pos hc]
  simp only [bind_assoc]
  rfl

/-- at every other one it computes its block. -/
theorem chan_rest (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)  (hc : ¬ Scalar.cmpi .ne (Scalar.extui (Scalar.cmpi .eq (BitVec.ofNat 32 (i 0).val) 0#32)) 0#32 = 1#1) :
    cc0_channel (F := F) i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7 = comp i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7 := by
  simp only [cc0_channel_eq_skeleton]; unfold cc0_channel_skel
  simp only [k0_part29_eq_skeleton]; unfold k0_part29_skel comp
  rw [dif_neg hc]
  rfl

end Cert.KernelIdeal.Hand
end
-- ==== Proof.Body.lean ====
module

public import proofs.«01_k».proof.Proof.Gen.KernelIdeal.Skeleton
public import proofs.«01_k».proof.Proof.Gen.KernelIdeal.Frame
public import proofs.«01_k».proof.Proof.Comp
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel at the first grid point: it loads the weights into its scratch and leaves its block in the output's
    buffer; its own semaphores end at zero, the weights in HBM as they were. -/
theorem kernel_first (c : Dev nD) (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)
    (x0 : Vec F S1024x1024 .f32) (x1 : Vec F S1x1024x256 .f32) (x2 : Vec F S1x1024 .f32) (x3 : Vec F S1x1024 .f32) (x4 : Vec F S1x1024 .f32) (x5 : Vec F S1x1024 .f32)
    (fh0 : HbBuf (F := F) c hbM0) (fh1 : HbBuf (F := F) c hbM1) (fh2 : HbBuf (F := F) c hbM2) (fh3 : HbBuf (F := F) c hbM3)
    (hc : Scalar.cmpi .ne (Scalar.extui (Scalar.cmpi .eq (BitVec.ofNat 32 (i 0).val) 0#32)) 0#32 = 1#1) (W : Waits sig Unit) (K : PUnit → sProp 𝕄) :
    iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt c hbM0 fh0 ∗ hbPt c hbM1 fh1 ∗ hbPt c hbM2 fh2 ∗ hbPt c hbM3 fh3 ∗ owes (c : Thread nD τ) 0 W
      ∗ (iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (block x0 x1 x2 x3 x4 x5 (W1 c fh0) (W2 c fh1) (W3 c fh2) (W4 c fh3)) ∗ owns (c : Thread nD τ) arg12 fullShare (W1 c fh0) ∗ owns (c : Thread nD τ) arg13 fullShare (W2 c fh1) ∗ owns (c : Thread nD τ) arg14 fullShare (W3 c fh2) ∗ owns (c : Thread nD τ) arg15 fullShare (W4 c fh3) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt c hbM0 fh0 ∗ hbPt c hbM1 fh1 ∗ hbPt c hbM2 fh2 ∗ hbPt c hbM3 fh3 ∗ ∃ W2, owes (c : Thread nD τ) 0 W2) -∗ K ⟨⟩))
      ⊢ wp frame (wpE (defs₀ (F := F)) Variants.none c none) Set.univ (cc0_channel (F := F) i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7) K := by
  rw [chan_first (F := F) i arg1 harg1 arg2 harg2 arg7 harg7 arg8 harg8 arg9 harg9 arg10 harg10 arg11 harg11 arg12 harg12 arg13 harg13 arg14 harg14 arg15 harg15 alloca_r0 halloca_r0 alloca_r1 halloca_r1 alloca_r2 halloca_r2 alloca_r3 halloca_r3 hc, wp_bind]
  iintro ⟨H0, H1, H2, H3, H4, H5, H6, HS0, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, HW, Hk⟩
  iapply (fill_run c i arg1 harg1 arg2 harg2 arg7 harg7 arg8 harg8 arg9 harg9 arg10 harg10 arg11 harg11 arg12 harg12 arg13 harg13 arg14 harg14 arg15 harg15 alloca_r0 halloca_r0 alloca_r1 halloca_r1 alloca_r2 halloca_r2 alloca_r3 halloca_r3 fh0 fh1 fh2 fh3 W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [Hh3]; · iexact Hh3
  isplitl [HW]; · iexact HW
  iintro ⟨HS0, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, ⟨%W', HW⟩⟩
  iapply (comp_run c i arg1 harg1 arg2 harg2 arg7 harg7 arg8 harg8 arg9 harg9 arg10 harg10 arg11 harg11 arg12 harg12 arg13 harg13 arg14 harg14 arg15 harg15 alloca_r0 halloca_r0 alloca_r1 halloca_r1 alloca_r2 halloca_r2 alloca_r3 halloca_r3 x0 x1 x2 x3 x4 x5 (W1 c fh0) (W2 c fh1) (W3 c fh2) (W4 c fh3) _)
  isplitl [H0 H1 H2 H3 H4 H5 HS0 HS1 HS2 HS3]
  ·
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iexact HS3
  isplitl [H6]; · iexact H6
  iintro ⟨⟨H0, H1, H2, H3, H4, H5, HS0, HS1, HS2, HS3⟩, H6⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [Hh3]; · iexact Hh3
  iexists W'; iexact HW

/-- The kernel at any other grid point: the scratch holds the weights, and it leaves its block in the output's buffer. -/
theorem kernel_rest (c : Dev nD) (i : grid0.Coords) (arg1 : Memref sig .tc .vmem S1024x1024 .f32) (harg1 : arg1.IsWhole) (arg2 : Memref sig .tc .vmem S1x1024x256 .f32) (harg2 : arg2.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1024x1024 .bf16) (harg14 : arg14.IsWhole) (arg15 : Memref sig .tc .vmem S256x1024 .bf16) (harg15 : arg15.IsWhole) (alloca_r0 : Memref sig .tc .vmem S6x64x4096 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x1024 .f32) (halloca_r3 : alloca_r3.IsWhole)
    (x0 : Vec F S1024x1024 .f32) (x1 : Vec F S1x1024x256 .f32) (x2 : Vec F S1x1024 .f32) (x3 : Vec F S1x1024 .f32) (x4 : Vec F S1x1024 .f32) (x5 : Vec F S1x1024 .f32)
    (w1 : Vec F S1024x4096 .bf16) (w2 : Vec F S4096x1024 .bf16) (w3 : Vec F S1024x1024 .bf16) (w4 : Vec F S256x1024 .bf16)
    (hc : ¬ Scalar.cmpi .ne (Scalar.extui (Scalar.cmpi .eq (BitVec.ofNat 32 (i 0).val) 0#32)) 0#32 = 1#1) (K : PUnit → sProp 𝕄) :
    iprop(iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg12 fullShare w1 ∗ owns (c : Thread nD τ) arg13 fullShare w2 ∗ owns (c : Thread nD τ) arg14 fullShare w3 ∗ owns (c : Thread nD τ) arg15 fullShare w4) ∗ (∃ d, owns (c : Thread nD τ) arg11 fullShare d)
      ∗ (iprop(iprop(owns (c : Thread nD τ) arg1 fullShare x0 ∗ owns (c : Thread nD τ) arg2 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg12 fullShare w1 ∗ owns (c : Thread nD τ) arg13 fullShare w2 ∗ owns (c : Thread nD τ) arg14 fullShare w3 ∗ owns (c : Thread nD τ) arg15 fullShare w4) ∗ owns (c : Thread nD τ) arg11 fullShare (block x0 x1 x2 x3 x4 x5 w1 w2 w3 w4)) -∗ K ⟨⟩))
      ⊢ wp frame (wpE (defs₀ (F := F)) Variants.none c none) Set.univ (cc0_channel (F := F) i arg1 harg1 arg2 harg2 (Memref.whole main_arg2) (Memref.isWhole_whole _) (Memref.whole main_arg3) (Memref.isWhole_whole _) (Memref.whole main_arg6) (Memref.isWhole_whole _) (Memref.whole main_arg7) (Memref.isWhole_whole _) arg7 harg7 arg8 harg8 arg9 harg9 arg10 harg10 arg11 harg11 arg12 harg12 arg13 harg13 arg14 harg14 arg15 harg15 alloca_r0 halloca_r0 cc0_scoped1 alloca_r1 halloca_r1 cc0_scoped3 alloca_r2 halloca_r2 cc0_scoped5 alloca_r3 halloca_r3 cc0_scoped7) K := by
  rw [chan_rest (F := F) i arg1 harg1 arg2 harg2 arg7 harg7 arg8 harg8 arg9 harg9 arg10 harg10 arg11 harg11 arg12 harg12 arg13 harg13 arg14 harg14 arg15 harg15 alloca_r0 halloca_r0 alloca_r1 halloca_r1 alloca_r2 halloca_r2 alloca_r3 halloca_r3 hc]
  exact comp_run c i arg1 harg1 arg2 harg2 arg7 harg7 arg8 harg8 arg9 harg9 arg10 harg10 arg11 harg11 arg12 harg12 arg13 harg13 arg14 harg14 arg15 harg15 alloca_r0 halloca_r0 alloca_r1 halloca_r1 alloca_r2 halloca_r2 alloca_r3 halloca_r3 x0 x1 x2 x3 x4 x5 w1 w2 w3 w4 K

end Cert.KernelIdeal.Hand
end
-- ==== Proof.Launch.lean ====
module

public import proofs.«01_k».proof.Proof.Gen.KernelIdeal.Skeleton
public import proofs.«01_k».proof.Proof.Gen.KernelIdeal.Frame
public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run is stated over -/

set_option maxHeartbeats 800000 in
/-- @main is its host operations, then the pipelined call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Each input's staging buffer holds its block at every point, for any proof data whose arrays are the ones the
    call finds and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- And so on, input by input. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- And so on, input by input. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- And so on, input by input. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- And so on, input by input. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- And so on, input by input. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The condition of the body's loading of the weights, from the grid coordinates, -/
abbrev cond0_0 (i : grid0.Coords) : Prop := (Scalar.cmpi .ne (Scalar.extui (Scalar.cmpi .eq (BitVec.ofNat 32 (i 0).val) 0#32)) 0#32) = 1#1
/-- holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x4096 .bf16 := Memref.whole cc0_scratch0
abbrev scM0_1 : Memref sig .tc .vmem S4096x1024 .bf16 := Memref.whole cc0_scratch1
abbrev scM0_2 : Memref sig .tc .vmem S1024x1024 .bf16 := Memref.whole cc0_scratch2
abbrev scM0_3 : Memref sig .tc .vmem S256x1024 .bf16 := Memref.whole cc0_scratch3
abbrev scM0_4 : Memref sig .tc .vmem S6x64x4096 .f32 := Memref.whole cc0_scoped0
abbrev scM0_5 : Memref sig .tc .vmem S6x256x1024 .f32 := Memref.whole cc0_scoped2
abbrev scM0_6 : Memref sig .tc .vmem S6x256x1024 .f32 := Memref.whole cc0_scoped4
abbrev scM0_7 : Memref sig .tc .vmem S6x128x1024 .f32 := Memref.whole cc0_scoped6
/-- The body's own DMA semaphores. -/
abbrev osem0 : Fin 24 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 24 → SemLoc sig) j
/-- None of them is a window's, -/
theorem ownSemFacts0 : Pipeline.OwnSemFacts spec0 osem0 := by decide
/-- and at zero they are, listed, -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The weights' buffers: unscoped, and no window's array. -/
def H0 : Finset (Ref sig .tc) := {main_arg2, main_arg3, main_arg6, main_arg7}
theorem H0_sub : H0 ⊆ Pipeline.restRefs sig spec0 := by decide
/-- What they hold, listed. -/
theorem hbmPts0_eq (c : Dev nD) :
    (bigSep H0 (fun b => ((c : Thread nD τ).loc b) ↦{fullShare} V m c b) : sProp 𝕄) = iprop(hbPt c hbM0 (V m c main_arg2) ∗ hbPt c hbM1 (V m c main_arg3) ∗ hbPt c hbM2 (V m c main_arg6) ∗ hbPt c hbM3 (V m c main_arg7)) := by
  rw [BI.bigSep_eq_bigSepL_of_eq [main_arg2, main_arg3, main_arg6, main_arg7] (by decide) (by decide)]; rfl

/-- What the call gives the body's own state at its entry: the scratch and the staging rings at anything, the generator
    register, the semaphores at zero, the weights in HBM as they were, one by one. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt c hbM0 (V m c main_arg2) ∗ hbPt c hbM1 (V m c main_arg3) ∗ hbPt c hbM2 (V m c main_arg6) ∗ hbPt c hbM3 (V m c main_arg7))) := by
  rw [Pipeline.ΦD_eq, scopedRest0_eq, ownSems00_eq, hbmPts0_eq]; simp only [scM0_0, scM0_1, scM0_2, scM0_3, scM0_4, scM0_5, scM0_6, scM0_7, owns_whole]; try rfl

/-- What the body keeps between points: before the first point, what it was given; after it, the same with the four
    scratch buffers at the weights. -/
def Phi (c : Dev nD) : ℕ → sProp 𝕄
  | 0 => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt c hbM0 (V m c main_arg2) ∗ hbPt c hbM1 (V m c main_arg3) ∗ hbPt c hbM2 (V m c main_arg6) ∗ hbPt c hbM3 (V m c main_arg7)))
  | _ + 1 => iprop(iprop(owns (c : Thread nD τ) scM0_0 fullShare (W1 c (V m c main_arg2)) ∗ owns (c : Thread nD τ) scM0_1 fullShare (W2 c (V m c main_arg3)) ∗ owns (c : Thread nD τ) scM0_2 fullShare (W3 c (V m c main_arg6)) ∗ owns (c : Thread nD τ) scM0_3 fullShare (W4 c (V m c main_arg7)) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt c hbM0 (V m c main_arg2) ∗ hbPt c hbM1 (V m c main_arg3) ∗ hbPt c hbM2 (V m c main_arg6) ∗ hbPt c hbM3 (V m c main_arg7)))

/-- What the call gives is what the body needs at the first point, -/
theorem Phi_in (c : Dev nD) : (Pipeline.ΦD osem0 spec0 H0 (V m) c : sProp 𝕄) ⊢ Phi m c 0 := by
  rw [PhiD0_eq]; exact .rfl

/-- and what it keeps at the end gives that back. -/
theorem Phi_out (c : Dev nD) (n : ℕ) : Phi m c (n + 1) ⊢ (Pipeline.ΦD osem0 spec0 H0 (V m) c : sProp 𝕄) := by
  rw [PhiD0_eq]
  unfold Phi
  iintro ⟨⟨HS0, HS1, HS2, HS3, HS4, HS5, HS6, HS7⟩, Hg, Hq, Hh⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexact HS6
    iexact HS7
  isplitl [Hg]; · iexact Hg
  isplitl [Hq]; · iexact Hq
  iexact Hh

/-! ## The pipeline's proof data -/

/-- What the result's buffer holds after point `t`: the block of the arrays' blocks there. -/
def outBlk (c : Dev nD) (t : Fin cfg0.N) : Vec F S1024x1024 .f32 :=
  block (iblk m c 0 t) (iblk m c 1 t) (iblk m c 2 t) (iblk m c 3 t) (iblk m c 4 t) (iblk m c 5 t) (W1 c (V m c main_arg2)) (W2 c (V m c main_arg3)) (W3 c (V m c main_arg6)) (W4 c (V m c main_arg7))

/-- The proof data of the call on core `c`: the arrays as it finds them; after the body each input's buffer at its
    block and the result's at `outBlk`; between points `Phi`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

/-- The proof data's arrays are the ones the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

/-- What the body finds in each input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2400000 in
/-- The body at any point: at the first it loads the weights, at the others it finds them; either way it leaves the
    block of its inputs' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6]
  rw [show (dats m 0 c).Φ t.succ = Phi m c (t.val + 1) from rfl, show (dats m 0 c).Φ t.castSucc = Phi m c t.val from rfl]
  unfold Dat.owesAt Pipeline.owesWithin outBlk
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · rw [show t.val = 0 by omega]
    unfold Phi
    iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (kernel_first c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (V m c main_arg2) (V m c main_arg3) (V m c main_arg6) (V m c main_arg7) ((hcond0_0 t).mpr h0) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, HS0, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, ⟨%W', HW'⟩⟩
    isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2 Hh3]
    · isplitl [HS0 HS1 HS2 HS3 HS4 HS5 HS6 HS7]
      ·
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      ·
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [hn]
    unfold Phi
    iintro ⟨⟨⟨HS0, HS1, HS2, HS3, HS4, HS5, HS6, HS7⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (kernel_rest c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (W1 c (V m c main_arg2)) (W2 c (V m c main_arg3)) (W3 c (V m c main_arg6)) (W4 c (V m c main_arg7)) (fun h => h0 ((hcond0_0 t).mp h)) _)
    isplitl [H0 H1 H2 H3 H4 H5 HS0 HS1 HS2 HS3]
    ·
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iexact HS3
    isplitl [H6]; · iexists _; iexact H6
    iintro ⟨⟨H0, H1, H2, H3, H4, H5, HS0, HS1, HS2, HS3⟩, H6⟩
    isplitl [HS0 HS1 HS2 HS3 HS4 HS5 HS6 HS7 Hg Hq Hh]
    · isplitl [HS0 HS1 HS2 HS3 HS4 HS5 HS6 HS7]
      ·
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body keeps the pipeline's contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole run, for any values and from any memory with zero counters: it ends, with every array of the call at what
    the proof data says, every other buffer as the call found it, and every semaphore at zero. -/
theorem run_whole : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m)
    (hout := fun c => Phi_out m c 15)

/-- Read at the arrays: the result is the pipeline's write-back of `outBlk` and the arguments end as they were. -/
theorem run_main : θ_run defs (onTc (τ := τ) (main (F := F))) ⟨m, fun _ => 0, ρ⟩ (fun r => (∀ c : Dev nD,
      r.2.mem ((c.tc : Thread nD τ).loc main_v10) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_whole m ρ)

end Cert.KernelIdeal.Hand
end
-- ==== Proof.Row.lean ====
module

public import Idealize.ShloMosaic.Lib.Pointwise

@[expose] public section

noncomputable section

/-! One row of the channel layer over the extended reals: the squared-ReLU feed-forward with its residual, the gated
per-layer input with its residual, and the layer norm, as functions of a row and of the weights. The gate is written
with `logistic`; `gate_half` says the kernel's way of computing it agrees. -/

namespace Cert.Row

open Idealize.ShloMosaic

/-- The residual's scale, the layer norm's shift of the variance, the row's length, one half: the literals both programs share. -/
abbrev alpha : EReal := Ideal.ofBits .f32 0x3F9837F0#32
abbrev eps : EReal := Ideal.ofBits .f32 0x3727C5AC#32
abbrev len : EReal := Ideal.ofBits .f32 0x44800000#32
abbrev half : EReal := Ideal.ofBits .f32 0x3F000000#32

/-- A row less its mean, -/
def dev (s : Fin 1024 → EReal) (j : Fin 1024) : EReal := s j - Ideal.div (∑ k, s k) len
/-- and that divided by its standard deviation: the layer norm without scale and shift. -/
def nrm (s : Fin 1024 → EReal) (j : Fin 1024) : EReal :=
  dev s j * Ideal.rsqrt (Ideal.div (∑ k, dev s k * dev s k) len + eps)
/-- The layer norm. -/
def ln (s g b : Fin 1024 → EReal) (j : Fin 1024) : EReal := nrm s j * g j + b j

/-- The hidden row: the ReLU of the first product, squared. -/
def hid (x : Fin 1024 → EReal) (w1 : Fin 1024 → Fin 4096 → EReal) (k : Fin 4096) : EReal :=
  max (∑ i, x i * w1 i k) 0 * max (∑ i, x i * w1 i k) 0
/-- The feed-forward with its residual. -/
def ff (x : Fin 1024 → EReal) (w1 : Fin 1024 → Fin 4096 → EReal) (w2 : Fin 4096 → Fin 1024 → EReal) (j : Fin 1024) : EReal :=
  alpha * x j + ∑ k, hid x w1 k * w2 k j

/-- The gate of a row. -/
def gate (x : Fin 1024 → EReal) (w3 : Fin 1024 → Fin 1024 → EReal) (j : Fin 1024) : EReal :=
  Ideal.logistic (∑ i, x i * w3 i j)
/-- The gated per-layer input with its residual. -/
def ple (x : Fin 1024 → EReal) (p : Fin 256 → EReal) (w3 : Fin 1024 → Fin 1024 → EReal) (w4 : Fin 256 → Fin 1024 → EReal)
    (j : Fin 1024) : EReal :=
  alpha * x j + gate x w3 j * ∑ k, p k * w4 k j

/-- The whole row. -/
def row (x : Fin 1024 → EReal) (p : Fin 256 → EReal) (g2 b2 g3 b3 : Fin 1024 → EReal) (w1 : Fin 1024 → Fin 4096 → EReal)
    (w2 : Fin 4096 → Fin 1024 → EReal) (w3 : Fin 1024 → Fin 1024 → EReal) (w4 : Fin 256 → Fin 1024 → EReal) : Fin 1024 → EReal :=
  ln (ple (ln (ff x w1 w2) g2 b2) p w3 w4) g3 b3

/-- A row's batch and its position there, of the rows of all batches in order. -/
abbrev bat (R : Fin 16384) : Fin 8 := ⟨R.1 / 2048, by have := R.2; omega⟩
abbrev pos (R : Fin 16384) : Fin 2048 := ⟨R.1 % 2048, Nat.mod_lt _ (by norm_num)⟩

/-- The literal one half is one half. -/
theorem half_eq : half = ((1 / 2 : ℝ) : EReal) := by
  have h1 : 1056964608 >>> 23 % 256 = 126 := by decide
  have h2 : BitVec.extractLsb' 31 1 1056964608#32 = 0#1 := by decide
  norm_num [half, Ideal.ofBits, Ideal.ieee, h1, h2]

/-- Halving every term of a sum halves the sum. -/
theorem sum_half {n : ℕ} (f : Fin n → EReal) : ∑ k, half * f k = half * ∑ k, f k := by
  have h0 : (0 : EReal) ≤ half := by rw [half_eq]; exact_mod_cast (by norm_num : (0 : ℝ) ≤ 1 / 2)
  have ht : half ≠ ⊤ := by rw [half_eq]; exact EReal.coe_ne_top _
  induction (Finset.univ : Finset (Fin n)) using Finset.induction with
  | empty => simp
  | insert a s ha ih => rw [Finset.sum_insert ha, Finset.sum_insert ha, ih, EReal.left_distrib_of_nonneg_of_ne_top h0 ht]

/-- One half and half the hyperbolic tangent of half a number make its logistic function. -/
theorem half_tanh (s : EReal) : half + half * Ideal.tanh (half * s) = Ideal.logistic s := by
  rw [half_eq]
  have hp : (0 : ℝ) < 1 / 2 := by norm_num
  induction s with
  | bot =>
    rw [EReal.coe_mul_bot_of_pos hp, Ideal.tanh_bot, Ideal.logistic_bot]
    have : ((1 / 2 : ℝ) : EReal) + ((1 / 2 : ℝ) : EReal) * ((-1 : ℝ) : EReal) = ((0 : ℝ) : EReal) := by
      rw [← EReal.coe_mul, ← EReal.coe_add]; norm_num
    simpa using this
  | top =>
    rw [EReal.coe_mul_top_of_pos hp, Ideal.tanh_top, Ideal.logistic_top]
    have : ((1 / 2 : ℝ) : EReal) + ((1 / 2 : ℝ) : EReal) * ((1 : ℝ) : EReal) = ((1 : ℝ) : EReal) := by
      rw [← EReal.coe_mul, ← EReal.coe_add]; norm_num
    simpa using this
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have h1 : Real.exp (1 / 2 * r) ≠ 0 := (Real.exp_pos _).ne'
    have e1 : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    have hpos : 0 < Real.exp (1 / 2 * r) := Real.exp_pos _
    rw [e1, e2]
    field_simp
    ring

/-- So the kernel's gate, computed from the halved weight, is the gate. -/
theorem gate_half (x : Fin 1024 → EReal) (w3 : Fin 1024 → Fin 1024 → EReal) (j : Fin 1024) :
    half + half * Ideal.tanh (∑ i, x i * (half * w3 i j)) = gate x w3 j := by
  rw [show ∑ i, x i * (half * w3 i j) = half * ∑ i, x i * w3 i j from
    (Finset.sum_congr rfl fun i _ => mul_left_comm _ _ _).trans (sum_half _)]
  exact half_tanh _

end Cert.Row
end
-- ==== Proof.Arrays.lean ====
module

public import proofs.«01_k».proof.Proof.Gen.KernelIdeal.Frame
public import proofs.«01_k».proof.Proof.Gen.KernelIdeal.Points
public import proofs.«01_k».proof.Proof.Row
public import Idealize.ShloMosaic.Lib.Pointwise
public import Idealize.ShloMosaic.Lib.Claim

@[expose] public section

set_option maxRecDepth 16384

noncomputable section

/-! The blocks the call's input windows hand a grid point, read off the arguments. -/

namespace Cert.KernelIdeal.Hand

open Cert.KernelIdeal Cert.KernelIdeal.Gen Cert.Row
open Idealize.ShloMosaic Idealize.ShloMosaic.TcCoe Idealize.ShloMosaic.Tactic

/-- The host's reshapes before the call, read at an index. -/
theorem rows_apply (X : FVec Ideal S8x2048x1024 .f32) (R : Fin 16384) (i : Fin 1024) :
    shapeCast S16384x1024 X shapeCasts_S8x2048x1024_S16384x1024 (ix2 R i) = X (ix3 (bat R) (pos R) i) := by pointwise []
theorem prows_apply (X : FVec Ideal S1x8x2048x256 .f32) (R : Fin 16384) (k : Fin 256) :
    shapeCast S1x16384x256 X shapeCasts_S1x8x2048x256_S1x16384x256 (ix3 0 R k) = X (ix4 0 (bat R) (pos R) k) := by pointwise []
theorem vec_apply (X : FVec Ideal S1x1024 .f32) (i : Fin 1024) :
    shapeCast S1x1024 (shapeCast S1024 X shapeCasts_S1x1024_S1024) shapeCasts_S1024_S1x1024 (ix2 0 i) = X (ix2 0 i) := by pointwise []

variable (m : (ℓ : Loc nD τ sig) → Buf (Elt Ideal) ℓ)

/-- The row of the whole array that row `r` of point `t`'s block is. -/
abbrev rowOf (t : Fin cfg0.N) (r : Fin 1024) : Fin 16384 :=
  ⟨t.val * 1024 + r.val, by have h : t.val < 16 := lt_of_lt_of_eq t.2 N_0; have := r.2; omega⟩

/-- Where point `t`'s blocks of the first, the second and the output window start. -/
theorem start0 (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide +kernel
theorem start1 (t : Fin cfg0.N) : win0_1.index t 0 = 0 ∧ win0_1.index t 1 = t.val ∧ win0_1.index t 2 = 0 := by
  rcases fin_N0 t with rfl | rfl | rfl | rfl | rfl | rfl | rfl | rfl | rfl | rfl | rfl | rfl | rfl | rfl | rfl | rfl <;> decide +kernel
theorem start6 (t : Fin cfg0.N) : win0_6.index t 0 = t.val ∧ win0_6.index t 1 = 0 := by
  rcases fin_N0 t with rfl | rfl | rfl | rfl | rfl | rfl | rfl | rfl | rfl | rfl | rfl | rfl | rfl | rfl | rfl | rfl <;> decide +kernel

/-- Point `t`'s block of the first window is its rows of the activations. -/
theorem iblk0_apply (c : Dev nD) (t : Fin cfg0.N) (r i : Fin 1024) :
    (iblk m c 0 t : Vec Ideal S1024x1024 .f32) (ix2 r i)
      = (m ((c.tc : Thread nD τ).loc main_arg0) : FVec Ideal S8x2048x1024 .f32) (ix3 (bat (rowOf t r)) (pos (rowOf t r)) i) := by
  have hV : (V m c main_v0 : FVec Ideal S16384x1024 .f32)
      = shapeCast S16384x1024 (m ((c.tc : Thread nD τ).loc main_arg0) : FVec Ideal S8x2048x1024 .f32) shapeCasts_S8x2048x1024_S16384x1024 := by
    entry_read; rfl
  have hi : ((cfg0.win 0).blk t).view.emb (ix2 r i) = (ix2 (rowOf t r) i : S16384x1024.Idx) := by
    funext a
    have h := start0 t
    match a with
    | ⟨0, _⟩ => exact Fin.ext (by show win0_0.index t 0 * 1024 + 1 * r.val = t.val * 1024 + r.val; rw [h.1]; omega)
    | ⟨1, _⟩ => exact Fin.ext (by show win0_0.index t 1 * 1024 + 1 * i.val = i.val; rw [h.2]; omega)
  show (V m c main_v0 : FVec Ideal S16384x1024 .f32) (((cfg0.win 0).blk t).view.emb (ix2 r i)) = _
  rw [hi, hV]
  exact rows_apply _ _ _

/-- Point `t`'s block of the second window is its rows of the per-layer input. -/
theorem iblk1_apply (c : Dev nD) (t : Fin cfg0.N) (r : Fin 1024) (k : Fin 256) :
    (iblk m c 1 t : Vec Ideal S1x1024x256 .f32) (ix3 0 r k)
      = (m ((c.tc : Thread nD τ).loc main_arg1) : FVec Ideal S1x8x2048x256 .f32) (ix4 0 (bat (rowOf t r)) (pos (rowOf t r)) k) := by
  have hV : (V m c main_v1 : FVec Ideal S1x16384x256 .f32)
      = shapeCast S1x16384x256 (m ((c.tc : Thread nD τ).loc main_arg1) : FVec Ideal S1x8x2048x256 .f32) shapeCasts_S1x8x2048x256_S1x16384x256 := by
    entry_read; rfl
  have hi : ((cfg0.win 1).blk t).view.emb (ix3 0 r k) = (ix3 0 (rowOf t r) k : S1x16384x256.Idx) := by
    funext a
    have h := start1 t
    match a with
    | ⟨0, _⟩ => exact Fin.ext (by show win0_1.index t 0 * 1 + 1 * 0 = 0; rw [h.1])
    | ⟨1, _⟩ => exact Fin.ext (by show win0_1.index t 1 * 1024 + 1 * r.val = t.val * 1024 + r.val; rw [h.2.1]; omega)
    | ⟨2, _⟩ => exact Fin.ext (by show win0_1.index t 2 * 256 + 1 * k.val = k.val; rw [h.2.2]; omega)
  show (V m c main_v1 : FVec Ideal S1x16384x256 .f32) (((cfg0.win 1).blk t).view.emb (ix3 0 r k)) = _
  rw [hi, hV]
  exact prows_apply _ _ _

/-- The four windows of the layer norms' scales and shifts hold them whole at every point. -/
theorem iblk2_apply (c : Dev nD) (t : Fin cfg0.N) (i : Fin 1024) :
    (iblk m c 2 t : Vec Ideal S1x1024 .f32) (ix2 0 i) = (m ((c.tc : Thread nD τ).loc main_arg4) : FVec Ideal S1x1024 .f32) (ix2 0 i) := by
  have hV : (V m c main_v3 : FVec Ideal S1x1024 .f32)
      = shapeCast S1x1024 (shapeCast S1024 (m ((c.tc : Thread nD τ).loc main_arg4) : FVec Ideal S1x1024 .f32) shapeCasts_S1x1024_S1024) shapeCasts_S1024_S1x1024 := by
    entry_read; rfl
  have hi : ((cfg0.win 2).blk t).view.emb (ix2 0 i) = (ix2 0 i : S1x1024.Idx) := by
    funext a
    match a with
    | ⟨0, _⟩ => exact Fin.ext (by show 0 * 1 + 1 * 0 = 0; rfl)
    | ⟨1, _⟩ => exact Fin.ext (by show 0 * 1024 + 1 * i.val = i.val; omega)
  show (V m c main_v3 : FVec Ideal S1x1024 .f32) (((cfg0.win 2).blk t).view.emb (ix2 0 i)) = _
  rw [hi, hV]
  exact vec_apply _ _

theorem iblk3_apply (c : Dev nD) (t : Fin cfg0.N) (i : Fin 1024) :
    (iblk m c 3 t : Vec Ideal S1x1024 .f32) (ix2 0 i) = (m ((c.tc : Thread nD τ).loc main_arg5) : FVec Ideal S1x1024 .f32) (ix2 0 i) := by
  have hV : (V m c main_v5 : FVec Ideal S1x1024 .f32)
      = shapeCast S1x1024 (shapeCast S1024 (m ((c.tc : Thread nD τ).loc main_arg5) : FVec Ideal S1x1024 .f32) shapeCasts_S1x1024_S1024) shapeCasts_S1024_S1x1024 := by
    entry_read; rfl
  have hi : ((cfg0.win 3).blk t).view.emb (ix2 0 i) = (ix2 0 i : S1x1024.Idx) := by
    funext a
    match a with
    | ⟨0, _⟩ => exact Fin.ext (by show 0 * 1 + 1 * 0 = 0; rfl)
    | ⟨1, _⟩ => exact Fin.ext (by show 0 * 1024 + 1 * i.val = i.val; omega)
  show (V m c main_v5 : FVec Ideal S1x1024 .f32) (((cfg0.win 3).blk t).view.emb (ix2 0 i)) = _
  rw [hi, hV]
  exact vec_apply _ _

theorem iblk4_apply (c : Dev nD) (t : Fin cfg0.N) (i : Fin 1024) :
    (iblk m c 4 t : Vec Ideal S1x1024 .f32) (ix2 0 i) = (m ((c.tc : Thread nD τ).loc main_arg8) : FVec Ideal S1x1024 .f32) (ix2 0 i) := by
  have hV : (V m c main_v7 : FVec Ideal S1x1024 .f32)
      = shapeCast S1x1024 (shapeCast S1024 (m ((c.tc : Thread nD τ).loc main_arg8) : FVec Ideal S1x1024 .f32) shapeCasts_S1x1024_S1024) shapeCasts_S1024_S1x1024 := by
    entry_read; rfl
  have hi : ((cfg0.win 4).blk t).view.emb (ix2 0 i) = (ix2 0 i : S1x1024.Idx) := by
    funext a
    match a with
    | ⟨0, _⟩ => exact Fin.ext (by show 0 * 1 + 1 * 0 = 0; rfl)
    | ⟨1, _⟩ => exact Fin.ext (by show 0 * 1024 + 1 * i.val = i.val; omega)
  show (V m c main_v7 : FVec Ideal S1x1024 .f32) (((cfg0.win 4).blk t).view.emb (ix2 0 i)) = _
  rw [hi, hV]
  exact vec_apply _ _

theorem iblk5_apply (c : Dev nD) (t : Fin cfg0.N) (i : Fin 1024) :
    (iblk m c 5 t : Vec Ideal S1x1024 .f32) (ix2 0 i) = (m ((c.tc : Thread nD τ).loc main_arg9) : FVec Ideal S1x1024 .f32) (ix2 0 i) := by
  have hV : (V m c main_v9 : FVec Ideal S1x1024 .f32)
      = shapeCast S1x1024 (shapeCast S1024 (m ((c.tc : Thread nD τ).loc main_arg9) : FVec Ideal S1x1024 .f32) shapeCasts_S1x1024_S1024) shapeCasts_S1024_S1x1024 := by
    entry_read; rfl
  have hi : ((cfg0.win 5).blk t).view.emb (ix2 0 i) = (ix2 0 i : S1x1024.Idx) := by
    funext a
    match a with
    | ⟨0, _⟩ => exact Fin.ext (by show 0 * 1 + 1 * 0 = 0; rfl)
    | ⟨1, _⟩ => exact Fin.ext (by show 0 * 1024 + 1 * i.val = i.val; omega)
  show (V m c main_v9 : FVec Ideal S1x1024 .f32) (((cfg0.win 5).blk t).view.emb (ix2 0 i)) = _
  rw [hi, hV]
  exact vec_apply _ _

/-- A row of the output array lies in the block of its point, at its place there. -/
theorem emb6 (t : Fin cfg0.N) (r j : Fin 1024) :
    ((cfg0.win 6).blk t).view.emb (ix2 r j) = (ix2 (rowOf t r) j : S16384x1024.Idx) := by
  funext a
  have h := start6 t
  match a with
  | ⟨0, _⟩ => exact Fin.ext (by show win0_6.index t 0 * 1024 + 1 * r.val = t.val * 1024 + r.val; rw [h.1]; omega)
  | ⟨1, _⟩ => exact Fin.ext (by show win0_6.index t 1 * 1024 + 1 * j.val = j.val; rw [h.2]; omega)

/-- The output's blocks cover its array. -/
theorem cover6 (i : S16384x1024.Idx) : ∃ t : Fin cfg0.N, (cfg0.win 6).flush t = true ∧ i ∈ ((cfg0.win 6).blk t).view.set := by
  have h0 : (i 0 : Nat) < 16384 := (i 0).isLt
  have hN : cfg0.N = 16 := N_0
  have ht : (i 0 : Nat) / 1024 < cfg0.N := by omega
  refine ⟨⟨_, ht⟩, flush0_6 _, ?_⟩
  have e : i = ((cfg0.win 6).blk ⟨_, ht⟩).view.emb (ix2 (⟨(i 0 : Nat) % 1024, Nat.mod_lt _ (by norm_num)⟩ : Fin 1024) (⟨(i 1 : Nat), (i 1).isLt⟩ : Fin 1024)) := by
    rw [emb6]
    funext a
    match a with
    | ⟨0, _⟩ => exact Fin.ext (by show (i 0 : Nat) = (i 0 : Nat) / 1024 * 1024 + (i 0 : Nat) % 1024; omega)
    | ⟨1, _⟩ => rfl
  exact Eq.mp (congrArg (· ∈ ((cfg0.win 6).blk ⟨_, ht⟩).view.set) e.symm) (View.emb_mem_set _ _)

end Cert.KernelIdeal.Hand
end
-- ==== Proof.Weights.lean ====
module

public import proofs.«01_k».proof.Proof.Fill
public import proofs.«01_k».proof.Proof.Row
public import Idealize.ShloMosaic.Lib.Pointwise

@[expose] public section

set_option maxRecDepth 16384

noncomputable section

/-! The weights the scratch holds, read off the arguments over the extended reals. -/

namespace Cert.KernelIdeal.Hand

open Cert.KernelIdeal Cert.KernelIdeal.Gen Cert.Row
open Idealize.ShloMosaic Idealize.ShloMosaic.TcCoe

/-! Each weight as it lies, and as loaded: itself, the gate's halved. -/

theorem hb1_apply (c : Dev nD) (f : FVec Ideal S1x1024x4096 .f32) (i : Fin 1024) (k : Fin 4096) : hb1 (F := Ideal) c f (ix2 i k) = f (ix3 0 i k) := by
  have hc : ∀ X : FVec Ideal S1x1024x4096 .f32, shapeCast S1024x4096 X (by decide : S1x1024x4096.ShapeCasts S1024x4096) (ix2 i k) = X (ix3 0 i k) := fun X => by pointwise []
  refine Eq.trans (b := shapeCast S1024x4096 (fun x => f ((Rect.unit (s := S1x1024x4096) ![0, 0, 0] S1x1024x4096.size inb_S1x1024x4096_S1x1024x4096_0_0_0).emb x)) (by decide : S1x1024x4096.ShapeCasts S1024x4096) (ix2 i k)) rfl ((hc _).trans (congrArg f ?_))
  funext a
  match a with
  | ⟨0, _⟩ => rfl
  | ⟨1, _⟩ => exact Fin.ext (by show 0 + 1 * i.val = i.val; omega)
  | ⟨2, _⟩ => exact Fin.ext (by show 0 + 1 * k.val = k.val; omega)
theorem W1_apply (c : Dev nD) (f : FVec Ideal S1x1024x4096 .f32) (i : Fin 1024) (k : Fin 4096) : W1 (F := Ideal) c f (ix2 i k) = f (ix3 0 i k) :=
  hb1_apply c f i k

theorem hb2_apply (c : Dev nD) (f : FVec Ideal S1x4096x1024 .f32) (i : Fin 4096) (k : Fin 1024) : hb2 (F := Ideal) c f (ix2 i k) = f (ix3 0 i k) := by
  have hc : ∀ X : FVec Ideal S1x4096x1024 .f32, shapeCast S4096x1024 X (by decide : S1x4096x1024.ShapeCasts S4096x1024) (ix2 i k) = X (ix3 0 i k) := fun X => by pointwise []
  refine Eq.trans (b := shapeCast S4096x1024 (fun x => f ((Rect.unit (s := S1x4096x1024) ![0, 0, 0] S1x4096x1024.size inb_S1x4096x1024_S1x4096x1024_0_0_0).emb x)) (by decide : S1x4096x1024.ShapeCasts S4096x1024) (ix2 i k)) rfl ((hc _).trans (congrArg f ?_))
  funext a
  match a with
  | ⟨0, _⟩ => rfl
  | ⟨1, _⟩ => exact Fin.ext (by show 0 + 1 * i.val = i.val; omega)
  | ⟨2, _⟩ => exact Fin.ext (by show 0 + 1 * k.val = k.val; omega)
theorem W2_apply (c : Dev nD) (f : FVec Ideal S1x4096x1024 .f32) (i : Fin 4096) (k : Fin 1024) : W2 (F := Ideal) c f (ix2 i k) = f (ix3 0 i k) :=
  hb2_apply c f i k

theorem hb3_apply (c : Dev nD) (f : FVec Ideal S1x1024x1024 .f32) (i : Fin 1024) (k : Fin 1024) : hb3 (F := Ideal) c f (ix2 i k) = f (ix3 0 i k) := by
  have hc : ∀ X : FVec Ideal S1x1024x1024 .f32, shapeCast S1024x1024 X (by decide : S1x1024x1024.ShapeCasts S1024x1024) (ix2 i k) = X (ix3 0 i k) := fun X => by pointwise []
  refine Eq.trans (b := shapeCast S1024x1024 (fun x => f ((Rect.unit (s := S1x1024x1024) ![0, 0, 0] S1x1024x1024.size inb_S1x1024x1024_S1x1024x1024_0_0_0).emb x)) (by decide : S1x1024x1024.ShapeCasts S1024x1024) (ix2 i k)) rfl ((hc _).trans (congrArg f ?_))
  funext a
  match a with
  | ⟨0, _⟩ => rfl
  | ⟨1, _⟩ => exact Fin.ext (by show 0 + 1 * i.val = i.val; omega)
  | ⟨2, _⟩ => exact Fin.ext (by show 0 + 1 * k.val = k.val; omega)
theorem W3_apply (c : Dev nD) (f : FVec Ideal S1x1024x1024 .f32) (i : Fin 1024) (k : Fin 1024) : W3 (F := Ideal) c f (ix2 i k) = half * f (ix3 0 i k) :=
  congrArg (half * ·) (hb3_apply c f i k)

theorem hb4_apply (c : Dev nD) (f : FVec Ideal S1x256x1024 .f32) (i : Fin 256) (k : Fin 1024) : hb4 (F := Ideal) c f (ix2 i k) = f (ix3 0 i k) := by
  have hc : ∀ X : FVec Ideal S1x256x1024 .f32, shapeCast S256x1024 X (by decide : S1x256x1024.ShapeCasts S256x1024) (ix2 i k) = X (ix3 0 i k) := fun X => by pointwise []
  refine Eq.trans (b := shapeCast S256x1024 (fun x => f ((Rect.unit (s := S1x256x1024) ![0, 0, 0] S1x256x1024.size inb_S1x256x1024_S1x256x1024_0_0_0).emb x)) (by decide : S1x256x1024.ShapeCasts S256x1024) (ix2 i k)) rfl ((hc _).trans (congrArg f ?_))
  funext a
  match a with
  | ⟨0, _⟩ => rfl
  | ⟨1, _⟩ => exact Fin.ext (by show 0 + 1 * i.val = i.val; omega)
  | ⟨2, _⟩ => exact Fin.ext (by show 0 + 1 * k.val = k.val; omega)
theorem W4_apply (c : Dev nD) (f : FVec Ideal S1x256x1024 .f32) (i : Fin 256) (k : Fin 1024) : W4 (F := Ideal) c f (ix2 i k) = f (ix3 0 i k) :=
  hb4_apply c f i k

end Cert.KernelIdeal.Hand
end
-- ==== Proof.BlockVal.lean ====
module

public import proofs.«01_k».proof.Proof.Gen.KernelIdeal.Skeleton
public import proofs.«01_k».proof.Proof.Row
public import Idealize.ShloMosaic.Lib.Pointwise

@[expose] public section

set_option maxRecDepth 16384

noncomputable section

/-! What a block of the kernel holds over the extended reals, stage by stage: every row of it is `Cert.Row.row` of the
block's rows and of the weights. -/

namespace Cert.KernelIdeal.Hand

open Cert.KernelIdeal.Gen Cert.Row
open Idealize.ShloMosaic

/-- The feed-forward stage, normalised. -/
theorem pay49_apply (x : Vec Ideal S1024x1024 .f32) (w1 : Vec Ideal S1024x4096 .bf16) (w2 : Vec Ideal S4096x1024 .bf16) (r c : Fin 1024) :
    k0_pay49 (F := Ideal) x w1 w2 (ix2 r c)
      = nrm (ff (fun i => x (ix2 r i)) (fun i k => w1 (ix2 i k)) (fun k j => w2 (ix2 k j))) c := by
  pointwise [k0_pay49, nrm, dev, ff, hid]

/-- The gated stage, less its mean. -/
theorem pay52_apply (g b : Vec Ideal S1x1024 .f32) (v : Vec Ideal S1024x1024 .f32) (w3 : Vec Ideal S1024x1024 .bf16)
    (p : Vec Ideal S1x1024x256 .f32) (w4 : Vec Ideal S256x1024 .bf16) (w : Fin 1024 → Fin 1024 → EReal)
    (hw : ∀ i j, w3 (ix2 i j) = half * w i j) (r c : Fin 1024) :
    k0_pay52 (F := Ideal) g b v w3 p w4 (ix2 r c)
      = dev (ple (fun i => v (ix2 r i) * g (ix2 0 i) + b (ix2 0 i)) (fun k => p (ix3 0 r k)) w (fun k j => w4 (ix2 k j))) c := by
  have hg : ∀ (u : Fin 1024 → EReal) (j : Fin 1024), half + half * Ideal.tanh (∑ i, u i * w3 (ix2 i j)) = gate u w j := fun u j => by
    simp only [hw]; exact gate_half u w j
  pointwise [k0_pay52, dev, ple, ← hg]

/-- The reciprocal of that stage's standard deviation. -/
theorem pay53_apply (g b : Vec Ideal S1x1024 .f32) (v : Vec Ideal S1024x1024 .f32) (w3 : Vec Ideal S1024x1024 .bf16)
    (p : Vec Ideal S1x1024x256 .f32) (w4 : Vec Ideal S256x1024 .bf16) (r : Fin 1024) :
    k0_pay53 (F := Ideal) g b v w3 p w4 (ix2 r 0)
      = Ideal.rsqrt (Ideal.div (∑ k : Fin 1024, k0_pay52 (F := Ideal) g b v w3 p w4 (ix2 r k) * k0_pay52 (F := Ideal) g b v w3 p w4 (ix2 r k)) len + eps) := by
  generalize hX : k0_pay52 (F := Ideal) g b v w3 p w4 = X
  pointwise [k0_pay53, hX]

/-- The last stage: scale and shift. -/
theorem pay1_apply (g b : Vec Ideal S1x1024 .f32) (v : Vec Ideal S1024x1024 .f32) (d : Vec Ideal S1024x1 .f32) (r c : Fin 1024) :
    k0_pay1 (F := Ideal) g b v d (ix2 r c) = v (ix2 r c) * d (ix2 r 0) * g (ix2 0 c) + b (ix2 0 c) := by
  pointwise [k0_pay1]

theorem pay47_eq (g : Vec Ideal S1x1024 .f32) : k0_pay47 (F := Ideal) g = g := by unfold k0_pay47; exact shapeCast_self _ _
theorem pay48_eq (g : Vec Ideal S1x1024 .f32) : k0_pay48 (F := Ideal) g = g := by unfold k0_pay48; exact shapeCast_self _ _
theorem pay50_eq (g : Vec Ideal S1x1024 .f32) : k0_pay50 (F := Ideal) g = g := by unfold k0_pay50; exact shapeCast_self _ _
theorem pay51_eq (g : Vec Ideal S1x1024 .f32) : k0_pay51 (F := Ideal) g = g := by unfold k0_pay51; exact shapeCast_self _ _

/-- The stages put together: a block's row is the layer's row, for a third weight loaded halved. -/
theorem stages_apply (x : Vec Ideal S1024x1024 .f32) (p : Vec Ideal S1x1024x256 .f32) (g2 b2 g3 b3 : Vec Ideal S1x1024 .f32)
    (w1 : Vec Ideal S1024x4096 .bf16) (w2 : Vec Ideal S4096x1024 .bf16) (w3 : Vec Ideal S1024x1024 .bf16) (w4 : Vec Ideal S256x1024 .bf16)
    (w : Fin 1024 → Fin 1024 → EReal) (hw : ∀ i j, w3 (ix2 i j) = half * w i j) (r c : Fin 1024) :
    k0_pay1 (F := Ideal) (k0_pay50 g3) (k0_pay51 b3) (k0_pay52 (k0_pay47 g2) (k0_pay48 b2) (k0_pay49 x w1 w2) w3 p w4)
        (k0_pay53 (k0_pay47 g2) (k0_pay48 b2) (k0_pay49 x w1 w2) w3 p w4) (ix2 r c)
      = row (fun i => x (ix2 r i)) (fun k => p (ix3 0 r k)) (fun i => g2 (ix2 0 i)) (fun i => b2 (ix2 0 i)) (fun i => g3 (ix2 0 i))
          (fun i => b3 (ix2 0 i)) (fun i k => w1 (ix2 i k)) (fun k j => w2 (ix2 k j)) w (fun k j => w4 (ix2 k j)) c := by
  rw [pay1_apply, pay53_apply, pay47_eq, pay48_eq, pay50_eq, pay51_eq]
  simp only [pay52_apply _ _ _ _ _ _ w hw, pay49_apply]
  rfl

end Cert.KernelIdeal.Hand
end
-- ==== Proof.KVal.lean ====
module

public import proofs.«01_k».proof.Proof.Launch
public import proofs.«01_k».proof.Proof.Arrays
public import proofs.«01_k».proof.Proof.Weights
public import proofs.«01_k».proof.Proof.BlockVal

@[expose] public section

set_option maxRecDepth 16384

noncomputable section

/-! The call's result over the extended reals, read off the arguments. -/

namespace Cert.KernelIdeal.Hand

open Cert.KernelIdeal Cert.KernelIdeal.Gen Cert.Row
open Idealize.ShloMosaic Idealize.ShloMosaic.TcCoe
open Idealize.ShloMosaic.Pipeline (Dat)

variable (m : (ℓ : Loc nD τ sig) → Buf (Elt Ideal) ℓ)

/-- The layer's row `R` of the launch memory's arguments, at column `j`. -/
def rowAt (c : Dev nD) (R : Fin 16384) (j : Fin 1024) : EReal :=
  row (fun i => (m ((c.tc : Thread nD τ).loc main_arg0) : FVec Ideal S8x2048x1024 .f32) (ix3 (bat R) (pos R) i))
          (fun k => (m ((c.tc : Thread nD τ).loc main_arg1) : FVec Ideal S1x8x2048x256 .f32) (ix4 0 (bat R) (pos R) k))
          (fun i => (m ((c.tc : Thread nD τ).loc main_arg4) : FVec Ideal S1x1024 .f32) (ix2 0 i))
          (fun i => (m ((c.tc : Thread nD τ).loc main_arg5) : FVec Ideal S1x1024 .f32) (ix2 0 i))
          (fun i => (m ((c.tc : Thread nD τ).loc main_arg8) : FVec Ideal S1x1024 .f32) (ix2 0 i))
          (fun i => (m ((c.tc : Thread nD τ).loc main_arg9) : FVec Ideal S1x1024 .f32) (ix2 0 i))
          (fun i k => (m ((c.tc : Thread nD τ).loc main_arg2) : FVec Ideal S1x1024x4096 .f32) (ix3 0 i k))
          (fun k j => (m ((c.tc : Thread nD τ).loc main_arg3) : FVec Ideal S1x4096x1024 .f32) (ix3 0 k j))
          (fun i j => (m ((c.tc : Thread nD τ).loc main_arg6) : FVec Ideal S1x1024x1024 .f32) (ix3 0 i j))
          (fun k j => (m ((c.tc : Thread nD τ).loc main_arg7) : FVec Ideal S1x256x1024 .f32) (ix3 0 k j)) j

/-- Every row of a point's block is the layer's. -/
theorem outBlk_apply (c : Dev nD) (t : Fin cfg0.N) (r j : Fin 1024) : outBlk m c t (ix2 r j) = rowAt m c (rowOf t r) j := by
  unfold outBlk block
  refine (stages_apply _ _ _ _ _ _ _ _ _ _ (fun i j => (V m c main_arg6 : FVec Ideal S1x1024x1024 .f32) (ix3 0 i j)) (fun i j => W3_apply c _ i j) r j).trans ?_
  simp only [iblk0_apply, iblk1_apply, iblk2_apply, iblk3_apply, iblk4_apply, iblk5_apply]
  unfold rowAt
  rw [← V_main_arg2 m c, ← V_main_arg3 m c, ← V_main_arg6 m c, ← V_main_arg7 m c]
  have h1 : ∀ i k, W1 (F := Ideal) c (V m c main_arg2) (ix2 i k) = (V m c main_arg2 : FVec Ideal S1x1024x4096 .f32) (ix3 0 i k) := W1_apply c _
  have h2 : ∀ i k, W2 (F := Ideal) c (V m c main_arg3) (ix2 i k) = (V m c main_arg3 : FVec Ideal S1x4096x1024 .f32) (ix3 0 i k) := W2_apply c _
  have h4 : ∀ i k, W4 (F := Ideal) c (V m c main_arg7) (ix2 i k) = (V m c main_arg7 : FVec Ideal S1x256x1024 .f32) (ix3 0 i k) := W4_apply c _
  simp only [h1, h2, h4]

/-- The result array as the arguments have it. -/
def outArr (c : Dev nD) : Buf (Elt Ideal) ((c.tc : Thread nD τ).loc main_v10) := fun i : S16384x1024.Idx => rowAt m c (i 0) (i 1)

/-- What a point writes back is its block of that array, -/
theorem flushed6 (c : Dev nD) (t : Fin cfg0.N) : (dats m 0 c).flushed 6 t = ((cfg0.win 6).blk t).view.read (Elt Ideal) (outArr m c) := by
  show (outBlk m c t : Vec Ideal S1024x1024 .f32) = _
  funext x
  have hx : x = ix2 (x 0) (x 1) := funext fun a => by match a with | ⟨0, _⟩ => rfl | ⟨1, _⟩ => rfl
  rw [hx]
  refine (outBlk_apply m c t (x 0) (x 1)).trans ?_
  exact (congrArg (outArr m c) (emb6 t (x 0) (x 1))).symm

/-- so the call leaves the array so. -/
theorem final6 (c : Dev nD) : (dats m 0 c).arrAt 6 cfg0.N = outArr m c :=
  (dats m 0 c).arrAt_eq_of_cover 6 (outArr m c) (fun t _ => flushed6 m c t) cover6

end Cert.KernelIdeal.Hand
end
-- ==== Proof.RefVal.lean ====
module

public import proofs.«01_k».proof.Proof.Gen.ReferenceIdeal.Run
public import proofs.«01_k».proof.Proof.Row
public import Idealize.ShloMosaic.Lib.Pointwise

@[expose] public section

set_option maxRecDepth 16384

noncomputable section

/-! What the reference's result holds over the extended reals: its row at a batch and a position is `Cert.Row.row` of the
arguments' rows there and of the weights. -/

namespace Cert.ReferenceIdeal.Hand

open Cert.ReferenceIdeal Cert.ReferenceIdeal.Gen Cert.Row
open Idealize.ShloMosaic Idealize.ShloMosaic.TcCoe

/-- The reference's feed-forward with its residual. -/
def rff (x : FVec Ideal S8x2048x1024 .f32) (w1 : FVec Ideal S1x1024x4096 .f32) (w2 : FVec Ideal S1x4096x1024 .f32) :
    FVec Ideal S8x2048x1024 .f32 :=
  have h : FVec Ideal S8x2048x4096 .f32 := maximumf (Host.dotGeneral dot_S8x2048x1024_S1024x4096_S8x2048x4096_2_0_01_1_n_n none x (shapeCast S1024x4096 w1 shapeCasts_S1x1024x4096_S1024x4096)) (broadcastInDim S8x2048x4096 ![] bcast_S_S8x2048x4096 (constant S_ .f32 0x00000000#32))
  addf (mulf (broadcastInDim S8x2048x1024 ![] bcast_S_S8x2048x1024 (constant S_ .f32 0x3F9837F0#32)) x)
    (Host.dotGeneral dot_S8x2048x4096_S4096x1024_S8x2048x1024_2_0_01_1_n_n none (mulf h h) (shapeCast S4096x1024 w2 shapeCasts_S1x4096x1024_S4096x1024))

/-- The reference's rows less their means. -/
def rdev (s : FVec Ideal S8x2048x1024 .f32) : FVec Ideal S8x2048x1024 .f32 :=
  subf s (broadcastInDim S8x2048x1024 ![0, 1, 2] bcast_S8x2048x1_S8x2048x1024_0_1_2
    (Host.divf (broadcastInDim S8x2048x1 ![0, 1] bcast_S8x2048_S8x2048x1_0_1 (Host.reduceAdd s (constant S_ .f32 0x00000000#32) reducesTo_S8x2048x1024_S8x2048_d2 h_S_))
      (broadcastInDim S8x2048x1 ![] bcast_S_S8x2048x1 (constant S_ .f32 0x44800000#32))))

/-- The reference's layer norm. -/
def rln (s : FVec Ideal S8x2048x1024 .f32) (g b : FVec Ideal S1x1024 .f32) : FVec Ideal S8x2048x1024 .f32 :=
  have d : FVec Ideal S8x2048x1024 .f32 := rdev s
  addf (mulf (mulf d (broadcastInDim S8x2048x1024 ![0, 1, 2] bcast_S8x2048x1_S8x2048x1024_0_1_2
      (Host.rsqrt (addf (Host.divf (broadcastInDim S8x2048x1 ![0, 1] bcast_S8x2048_S8x2048x1_0_1 (Host.reduceAdd (mulf d d) (constant S_ .f32 0x00000000#32) reducesTo_S8x2048x1024_S8x2048_d2 h_S_))
        (broadcastInDim S8x2048x1 ![] bcast_S_S8x2048x1 (constant S_ .f32 0x44800000#32))) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast S1024 g shapeCasts_S1x1024_S1024))))
    (broadcastInDim S8x2048x1024 ![0, 1, 2] bcast_S1x1x1024_S8x2048x1024_0_1_2 (broadcastInDim S1x1x1024 ![2] bcast_S1024_S1x1x1024_2 (shapeCast S1024 b shapeCasts_S1x1024_S1024)))

/-- The reference's gated per-layer input with its residual. -/
def rple (x : FVec Ideal S8x2048x1024 .f32) (p : FVec Ideal S1x8x2048x256 .f32) (w3 : FVec Ideal S1x1024x1024 .f32)
    (w4 : FVec Ideal S1x256x1024 .f32) : FVec Ideal S8x2048x1024 .f32 :=
  addf (mulf (broadcastInDim S8x2048x1024 ![] bcast_S_S8x2048x1024 (constant S_ .f32 0x3F9837F0#32)) x)
    (mulf (Host.divf (broadcastInDim S8x2048x1024 ![] bcast_S_S8x2048x1024 (constant S_ .f32 0x3F800000#32))
        (addf (broadcastInDim S8x2048x1024 ![] bcast_S_S8x2048x1024 (constant S_ .f32 0x3F800000#32))
          (Host.exp (Host.negf (Host.dotGeneral dot_S8x2048x1024_S1024x1024_S8x2048x1024_2_0_01_1_n_n none x (shapeCast S1024x1024 w3 shapeCasts_S1x1024x1024_S1024x1024))))))
      (Host.dotGeneral dot_S8x2048x256_S256x1024_S8x2048x1024_2_0_01_1_n_n none (shapeCast S8x2048x256 p shapeCasts_S1x8x2048x256_S8x2048x256) (shapeCast S256x1024 w4 shapeCasts_S1x256x1024_S256x1024)))

/-- The feed-forward at an index. -/
theorem rff_apply (x : FVec Ideal S8x2048x1024 .f32) (w1 : FVec Ideal S1x1024x4096 .f32) (w2 : FVec Ideal S1x4096x1024 .f32)
    (a : Fin 8) (b : Fin 2048) (c : Fin 1024) :
    rff x w1 w2 (ix3 a b c) = ff (fun i => x (ix3 a b i)) (fun i k => w1 (ix3 0 i k)) (fun k j => w2 (ix3 0 k j)) c := by
  pointwise [rff, ff, hid]

/-- The deviation at an index. -/
theorem rdev_apply (s : FVec Ideal S8x2048x1024 .f32) (a : Fin 8) (b : Fin 2048) (c : Fin 1024) :
    rdev s (ix3 a b c) = dev (fun i => s (ix3 a b i)) c := by
  pointwise [rdev, dev]

/-- The layer norm at an index. -/
theorem rln_apply (s : FVec Ideal S8x2048x1024 .f32) (g b : FVec Ideal S1x1024 .f32) (a : Fin 8) (q : Fin 2048) (c : Fin 1024) :
    rln s g b (ix3 a q c) = ln (fun i => s (ix3 a q i)) (fun i => g (ix2 0 i)) (fun i => b (ix2 0 i)) c := by
  pointwise [rln, rdev, ln, nrm, dev]

/-- The gated stage at an index. -/
theorem rple_apply (x : FVec Ideal S8x2048x1024 .f32) (p : FVec Ideal S1x8x2048x256 .f32) (w3 : FVec Ideal S1x1024x1024 .f32)
    (w4 : FVec Ideal S1x256x1024 .f32) (a : Fin 8) (b : Fin 2048) (c : Fin 1024) :
    rple x p w3 w4 (ix3 a b c)
      = ple (fun i => x (ix3 a b i)) (fun k => p (ix4 0 a b k)) (fun i j => w3 (ix3 0 i j)) (fun k j => w4 (ix3 0 k j)) c := by
  pointwise [rple, ple, gate, Ideal.logistic]

/-- The result is the stages put together, laid out in rows. -/
theorem res_eq (m : (ℓ : Loc nD τ sig) → Buf (Elt Ideal) ℓ) (c : Dev nD) :
    Value.res_main_v72 m c = shapeCast S16384x1024
      (rln (rple (rln (rff (m ((c.tc : Thread nD τ).loc main_arg0)) (m ((c.tc : Thread nD τ).loc main_arg2)) (m ((c.tc : Thread nD τ).loc main_arg3)))
          (m ((c.tc : Thread nD τ).loc main_arg4)) (m ((c.tc : Thread nD τ).loc main_arg5)))
        (m ((c.tc : Thread nD τ).loc main_arg1)) (m ((c.tc : Thread nD τ).loc main_arg6)) (m ((c.tc : Thread nD τ).loc main_arg7)))
        (m ((c.tc : Thread nD τ).loc main_arg8)) (m ((c.tc : Thread nD τ).loc main_arg9))) shapeCasts_S8x2048x1024_S16384x1024 := by
  unfold Value.res_main_v72; rfl

/-- Read at a row and a column. -/
theorem res_apply (m : (ℓ : Loc nD τ sig) → Buf (Elt Ideal) ℓ) (c : Dev nD) (R : Fin 16384) (j : Fin 1024) :
    (Value.res_main_v72 m c : FVec Ideal S16384x1024 .f32) (ix2 R j)
      = row (fun i => (m ((c.tc : Thread nD τ).loc main_arg0) : FVec Ideal S8x2048x1024 .f32) (ix3 (bat R) (pos R) i))
          (fun k => (m ((c.tc : Thread nD τ).loc main_arg1) : FVec Ideal S1x8x2048x256 .f32) (ix4 0 (bat R) (pos R) k))
          (fun i => (m ((c.tc : Thread nD τ).loc main_arg4) : FVec Ideal S1x1024 .f32) (ix2 0 i))
          (fun i => (m ((c.tc : Thread nD τ).loc main_arg5) : FVec Ideal S1x1024 .f32) (ix2 0 i))
          (fun i => (m ((c.tc : Thread nD τ).loc main_arg8) : FVec Ideal S1x1024 .f32) (ix2 0 i))
          (fun i => (m ((c.tc : Thread nD τ).loc main_arg9) : FVec Ideal S1x1024 .f32) (ix2 0 i))
          (fun i k => (m ((c.tc : Thread nD τ).loc main_arg2) : FVec Ideal S1x1024x4096 .f32) (ix3 0 i k))
          (fun k j => (m ((c.tc : Thread nD τ).loc main_arg3) : FVec Ideal S1x4096x1024 .f32) (ix3 0 k j))
          (fun i j => (m ((c.tc : Thread nD τ).loc main_arg6) : FVec Ideal S1x1024x1024 .f32) (ix3 0 i j))
          (fun k j => (m ((c.tc : Thread nD τ).loc main_arg7) : FVec Ideal S1x256x1024 .f32) (ix3 0 k j)) j := by
  have split : ∀ X : FVec Ideal S8x2048x1024 .f32,
      shapeCast S16384x1024 X shapeCasts_S8x2048x1024_S16384x1024 (ix2 R j) = X (ix3 (bat R) (pos R) j) := fun X => by pointwise []
  rw [res_eq]
  refine (split _).trans ?_
  simp only [rln_apply, rple_apply, rff_apply]
  rfl

end Cert.ReferenceIdeal.Hand
end
-- ==== Proof.lean ====
/- The certificate's claim, assembled: the frames of the kernel, of its idealization and of the reference, and the equality of
   the last two's results over the extended reals. The run is `Cert.KernelIdeal.Hand.run_main` (Proof/Launch.lean), once for every
   float instance; the values are in Proof/KVal.lean and Proof/RefVal.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KVal
public import proofs.«01_k».proof.Proof.RefVal
public import Idealize.ShloMosaic.Adequacy
public import Idealize.ShloMosaic.Init

@[expose] public section

set_option maxRecDepth 65536

noncomputable section

namespace Cert.Proof

open Idealize.ShloMosaic Idealize.SL.Sem Idealize.ShloMosaic.TcCoe

/-- At any floats the kernel runs, leaves its arguments as they were and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0) :=
  (θ_run Cert.KernelIdeal.defs _ _).mono (fun _ h => ⟨fun c => (h.1 c).2, h.2⟩) (Cert.KernelIdeal.Hand.run_main m ρ)

/-- So does the idealized kernel. -/
theorem frame_ideal : Cert.quiescent_KernelIdeal := fun m ρ _ => frame_any m ρ

/-- The kernel and its idealization have the same body, -/
theorem body_eq : @Cert.Kernel.cc0_channel Bits _ _ = @Cert.KernelIdeal.cc0_channel Bits _ _ := rfl

/-- so the same table of bodies, -/
theorem table_eq : @Cert.Kernel.defs₀ Bits _ _ = @Cert.KernelIdeal.defs₀ Bits _ _ := by
  refine congrArg Defs.onTc (funext fun l => funext fun p => ?_)
  obtain rfl : l = (0 : Fin 1) := Subsingleton.elim (α := Fin 1) _ _
  obtain ⟨t, s⟩ := p
  dsimp only
  rw [body_eq]
  rfl

/-- and the same pipeline round it. -/
theorem defs_eq : @Cert.Kernel.defs Bits _ _ = @Cert.KernelIdeal.defs Bits _ _ :=
  congrArg (Pipeline.defs (Cert.Kernel.pcfgs (F := Bits))) table_eq

/-- So the kernel's frame is its idealization's run, at the kernel's own float words. -/
theorem frame_kernel : Cert.quiescent_Kernel := fun m ρ _ => by
  have h := frame_any (F := Bits) m ρ
  rw [← defs_eq] at h
  exact h

/-- And the reference, which has no counter at all. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- From the same arguments the two leave the same array: row by row both hold `Cert.Row.row`. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Hand.outArr m c = Cert.ReferenceIdeal.Value.res_main_v72 m' c := by
  obtain ⟨h0, h1, h2, h3, h4, h5, h6, h7, h8, h9⟩ := h
  funext i
  have hi : i = (ix2 (i 0) (i 1) : Cert.ReferenceIdeal.S16384x1024.Idx) := funext fun a => by match a with | ⟨0, _⟩ => rfl | ⟨1, _⟩ => rfl
  rw [hi]
  refine Eq.trans ?_ (Cert.ReferenceIdeal.Hand.res_apply m' c (i 0) (i 1)).symm
  rw [h0, h1, h2, h3, h4, h5, h6, h7, h8, h9]
  rfl

/-- The idealized kernel's result is the reference's. -/
theorem algebraic : Cert.algebraic_KernelIdeal_ReferenceIdeal := fun m ρ m' ρ' _ h =>
  ⟨fun c => Cert.ReferenceIdeal.Value.res_main_v72 m' c,
    (θ_run Cert.KernelIdeal.defs _ _).mono
      (fun _ hr c => ⟨(hr.1 c).1.trans ((Cert.KernelIdeal.Hand.final6 m c).trans (same m m' c (h c))), (hr.1 c).2⟩)
      (Cert.KernelIdeal.Hand.run_main (F := Ideal) m ρ),
    Cert.ReferenceIdeal.Value.run m' ρ'⟩

theorem claim : Cert.Claim := ⟨Cert.Kernel.Gen.facts, Cert.KernelIdeal.Gen.facts, Cert.ReferenceIdeal.Gen.facts,
  frame_kernel, frame_ideal, frame_reference, trivial, algebraic⟩

end Cert.Proof

end
